-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S3x2048x4096 : Shape := ⟨3, ![3, 2048, 4096]⟩
abbrev S4608x4096 : Shape := ⟨2, ![4608, 4096]⟩
abbrev S4608x128 : Shape := ⟨2, ![4608, 128]⟩
abbrev S3x2048x128x32 : Shape := ⟨4, ![3, 2048, 128, 32]⟩
abbrev S_ : Shape := ⟨0, ![]⟩
abbrev S3x2048x128 : Shape := ⟨3, ![3, 2048, 128]⟩

class Facts : Prop where
  bitsLt_bf16_f32 : FTy.bits .bf16 < FTy.bits .f32
  shapeCasts_S3x2048x4096_S3x2048x128x32 : S3x2048x4096.ShapeCasts S3x2048x128x32
  reducesTo_S3x2048x128x32_S3x2048x128_d3 : S3x2048x128x32.ReducesTo [3] S3x2048x128
  h_S_ : 0 < S_.numel
  bcast_S_S3x2048x128 : S_.BroadcastsInDim S3x2048x128 (![] : Fin 0 → Fin S3x2048x128.rank)
  reducesTo_S3x2048x128_S_d0_1_2 : S3x2048x128.ReducesTo [0, 1, 2] S_
  bcast_S_S4608x128 : S_.BroadcastsInDim S4608x128 (![] : Fin 0 → Fin S4608x128.rank)
  reducesTo_S4608x128_S_d0_1 : S4608x128.ReducesTo [0, 1] S_

variable [Facts]

def fn_part1 {F : FTy → Type} [FloatOps F] (main_arg2 : IVec S4608x128 8) (main_v14 : IVec S_ 1) (main_v16 : IVec S4608x128 1) : IVec S_ 1 :=
  let main_c_5 : IVec S_ 8 := constantI S_ 8 254#8
  let main_v17 : IVec S4608x128 8 := broadcastInDim S4608x128 ![] bcast_S_S4608x128 main_c_5
  let main_v18 : IVec S4608x128 1 := cmpi .ule main_arg2 main_v17
  let main_v19 : IVec S4608x128 1 := andi main_v16 main_v18
  let main_c_6 : IVec S_ 1 := constantI S_ 1 1#1
  let main_v20 : IVec S_ 1 := (fun x v => Host.reduce IntOp.andi x v reducesTo_S4608x128_S_d0_1 h_S_) main_v19 main_c_6
  let main_v21 : IVec S_ 1 := andi main_v14 main_v20
  main_v21

def fn {F : FTy → Type} [FloatOps F] (main_arg0 : FVec F S3x2048x4096 .bf16) (main_arg1 : FVec F S4608x4096 .fp8e4m3) (main_arg2 : IVec S4608x128 8) : IVec S_ 1 :=
  let main_v0 : FVec F S3x2048x4096 .f32 := (extf .f32 · bitsLt_bf16_f32) main_arg0
  let main_v1 : FVec F S3x2048x128x32 .f32 := shapeCast S3x2048x128x32 main_v0 shapeCasts_S3x2048x4096_S3x2048x128x32
  let main_v2 : FVec F S3x2048x128x32 .f32 := Host.absf main_v1
  let main_cst : FVec F S_ .f32 := constant S_ .f32 0xFF800000#32
  let main_v3 : FVec F S3x2048x128 .f32 := (fun x v => Host.reduce FloatOps.maximumf x v reducesTo_S3x2048x128x32_S3x2048x128_d3 h_S_) main_v2 main_cst
  let main_cst_0 : FVec F S_ .f32 := constant S_ .f32 0x3B124925#32
  let main_v4 : FVec F S3x2048x128 .f32 := broadcastInDim S3x2048x128 ![] bcast_S_S3x2048x128 main_cst_0
  let main_v5 : FVec F S3x2048x128 .f32 := mulf main_v3 main_v4
  let main_cst_1 : FVec F S_ .f32 := constant S_ .f32 0x00800000#32
  let main_v6 : FVec F S3x2048x128 .f32 := broadcastInDim S3x2048x128 ![] bcast_S_S3x2048x128 main_cst_1
  let main_v7 : IVec S3x2048x128 1 := cmpf .oge main_v5 main_v6
  let main_cst_2 : FVec F S_ .f32 := constant S_ .f32 0x7F7F0000#32
  let main_v8 : FVec F S3x2048x128 .f32 := broadcastInDim S3x2048x128 ![] bcast_S_S3x2048x128 main_cst_2
  let main_v9 : IVec S3x2048x128 1 := cmpf .ole main_v3 main_v8
  let main_v10 : IVec S3x2048x128 1 := andi main_v7 main_v9
  let main_cst_3 : FVec F S_ .f32 := constant S_ .f32 0x00000000#32
  let main_v11 : FVec F S3x2048x128 .f32 := broadcastInDim S3x2048x128 ![] bcast_S_S3x2048x128 main_cst_3
  let main_v12 : IVec S3x2048x128 1 := cmpf .oeq main_v3 main_v11
  let main_v13 : IVec S3x2048x128 1 := ori main_v12 main_v10
  let main_c : IVec S_ 1 := constantI S_ 1 1#1
  let main_v14 : IVec S_ 1 := (fun x v => Host.reduce IntOp.andi x v reducesTo_S3x2048x128_S_d0_1_2 h_S_) main_v13 main_c
  let main_c_4 : IVec S_ 8 := constantI S_ 8 1#8
  let main_v15 : IVec S4608x128 8 := broadcastInDim S4608x128 ![] bcast_S_S4608x128 main_c_4
  let main_v16 : IVec S4608x128 1 := cmpi .uge main_arg2 main_v15
  fn_part1 (F := F) main_arg2 main_v14 main_v16
-- ==== Kernel.lean ====
abbrev S3x2048x4096 : Shape := ⟨3, ![3, 2048, 4096]⟩
abbrev S4608x4096 : Shape := ⟨2, ![4608, 4096]⟩
abbrev S4608x128 : Shape := ⟨2, ![4608, 128]⟩
abbrev S6144x4096 : Shape := ⟨2, ![6144, 4096]⟩
abbrev S6144x128 : Shape := ⟨2, ![6144, 128]⟩
abbrev S256x4096 : Shape := ⟨2, ![256, 4096]⟩
abbrev S256x128 : Shape := ⟨2, ![256, 128]⟩
abbrev S4096x128 : Shape := ⟨2, ![4096, 128]⟩
abbrev S128x4096 : Shape := ⟨2, ![128, 4096]⟩
abbrev S3x2048x4608 : Shape := ⟨3, ![3, 2048, 4608]⟩
abbrev S1024x4096 : Shape := ⟨2, ![1024, 4096]⟩
abbrev S768x4096 : Shape := ⟨2, ![768, 4096]⟩
abbrev S1x1024x768 : Shape := ⟨3, ![1, 1024, 768]⟩
abbrev S1024x768 : Shape := ⟨2, ![1024, 768]⟩
abbrev S3x2048x128 : Shape := ⟨3, ![3, 2048, 128]⟩

abbrev nBuf : Space → Nat
  | .hbm => 11
  | .vmem => 20
  | .smem => 0
  | _ => 0

abbrev bufTy : (tb : Table) → Fin (tcTables nBuf tb) → BufTy
  | .hbm, ⟨0, _⟩ => ⟨S3x2048x4096, .bf16⟩
  | .hbm, ⟨1, _⟩ => ⟨S4608x4096, .fp8e4m3⟩
  | .hbm, ⟨2, _⟩ => ⟨S4608x128, .i8⟩
  | .hbm, ⟨3, _⟩ => ⟨S6144x4096, .bf16⟩
  | .hbm, ⟨4, _⟩ => ⟨S6144x4096, .fp8e4m3⟩
  | .hbm, ⟨5, _⟩ => ⟨S6144x128, .i8⟩
  | .hbm, ⟨6, _⟩ => ⟨S6144x4096, .bf16⟩
  | .hbm, ⟨7, _⟩ => ⟨S4608x4096, .bf16⟩
  | .hbm, ⟨8, _⟩ => ⟨S3x2048x4608, .bf16⟩
  | .hbm, ⟨9, _⟩ => ⟨S3x2048x4096, .fp8e4m3⟩
  | .hbm, ⟨10, _⟩ => ⟨S3x2048x128, .i8⟩
  | .local _ .vmem, ⟨0, _⟩ => ⟨S256x4096, .bf16⟩
  | .local _ .vmem, ⟨1, _⟩ => ⟨S256x4096, .bf16⟩
  | .local _ .vmem, ⟨2, _⟩ => ⟨S256x4096, .fp8e4m3⟩
  | .local _ .vmem, ⟨3, _⟩ => ⟨S256x4096, .fp8e4m3⟩
  | .local _ .vmem, ⟨4, _⟩ => ⟨S256x128, .i8⟩
  | .local _ .vmem, ⟨5, _⟩ => ⟨S256x128, .i8⟩
  | .local _ .vmem, ⟨6, _⟩ => ⟨S256x4096, .bf16⟩
  | .local _ .vmem, ⟨7, _⟩ => ⟨S256x4096, .bf16⟩
  | .local _ .vmem, ⟨8, _⟩ => ⟨S256x4096, .fp8e4m3⟩
  | .local _ .vmem, ⟨9, _⟩ => ⟨S256x4096, .fp8e4m3⟩
  | .local _ .vmem, ⟨10, _⟩ => ⟨S256x128, .i8⟩
  | .local _ .vmem, ⟨11, _⟩ => ⟨S256x128, .i8⟩
  | .local _ .vmem, ⟨12, _⟩ => ⟨S256x4096, .bf16⟩
  | .local _ .vmem, ⟨13, _⟩ => ⟨S256x4096, .bf16⟩
  | .local _ .vmem, ⟨14, _⟩ => ⟨S1024x4096, .bf16⟩
  | .local _ .vmem, ⟨15, _⟩ => ⟨S1024x4096, .bf16⟩
  | .local _ .vmem, ⟨16, _⟩ => ⟨S768x4096, .bf16⟩
  | .local _ .vmem, ⟨17, _⟩ => ⟨S768x4096, .bf16⟩
  | .local _ .vmem, ⟨18, _⟩ => ⟨S1x1024x768, .bf16⟩
  | .local _ .vmem, ⟨19, _⟩ => ⟨S1x1024x768, .bf16⟩
  | _, _ => ⟨S3x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![18], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![6, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S768x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S3x2048x4096 : Shape := ⟨3, ![3, 2048, 4096]⟩
abbrev S4608x4096 : Shape := ⟨2, ![4608, 4096]⟩
abbrev S4608x128 : Shape := ⟨2, ![4608, 128]⟩
abbrev S3x2048x4608 : Shape := ⟨3, ![3, 2048, 4608]⟩
abbrev S3x2048x128 : Shape := ⟨3, ![3, 2048, 128]⟩
abbrev S3x2048x128x32 : Shape := ⟨4, ![3, 2048, 128, 32]⟩
abbrev S3x2048x128x1 : Shape := ⟨4, ![3, 2048, 128, 1]⟩
abbrev S6144x128x32 : Shape := ⟨3, ![6144, 128, 32]⟩
abbrev S4608x128x32 : Shape := ⟨3, ![4608, 128, 32]⟩
abbrev S6144x128 : Shape := ⟨2, ![6144, 128]⟩
abbrev S128x6144x32 : Shape := ⟨3, ![128, 6144, 32]⟩
abbrev S128x4608x32 : Shape := ⟨3, ![128, 4608, 32]⟩
abbrev S128x6144x4608 : Shape := ⟨3, ![128, 6144, 4608]⟩
abbrev S128x6144 : Shape := ⟨2, ![128, 6144]⟩
abbrev S128x6144x1 : Shape := ⟨3, ![128, 6144, 1]⟩
abbrev S128x4608 : Shape := ⟨2, ![128, 4608]⟩
abbrev S128x1x4608 : Shape := ⟨3, ![128, 1, 4608]⟩
abbrev S6144x4608 : Shape := ⟨2, ![6144, 4608]⟩

abbrev nBuf : Space → Nat
  | .hbm => 6
  | .vmem => 6
  | .smem => 0
  | _ => 0

abbrev bufTy : (tb : Table) → Fin (tcTables nBuf tb) → BufTy
  | .hbm, ⟨0, _⟩ => ⟨S3x2048x4096, .bf16⟩
  | .hbm, ⟨1, _⟩ => ⟨S4608x4096, .fp8e4m3⟩
  | .hbm, ⟨2, _⟩ => ⟨S4608x128, .i8⟩
  | .hbm, ⟨3, _⟩ => ⟨S3x2048x4608, .bf16⟩
  | .hbm, ⟨4, _⟩ => ⟨S3x2048x4096, .fp8e4m3⟩
  | .hbm, ⟨5, _⟩ => ⟨S3x2048x128, .i8⟩
  | .local _ .vmem, ⟨0, _⟩ => ⟨S3x2048x4096, .bf16⟩
  | .local _ .vmem, ⟨1, _⟩ => ⟨S4608x4096, .fp8e4m3⟩
  | .local _ .vmem, ⟨2, _⟩ => ⟨S4608x128, .i8⟩
  | .local _ .vmem, ⟨3, _⟩ => ⟨S3x2048x4608, .bf16⟩
  | .local _ .vmem, ⟨4, _⟩ => ⟨S3x2048x4096, .fp8e4m3⟩
  | .local _ .vmem, ⟨5, _⟩ => ⟨S3x2048x128, .i8⟩
  | _, _ => ⟨S3x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2048x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2048x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Exponent.lean ====
/-
  The shared exponent of a block of 32 values, as an integer: the quotient `a / 448` of the block's largest magnitude
  `a` lies in `[2^(e-1), 2^e)`. The kernel finds `e` by a binary search over the powers of two, eight comparisons; the
  reference takes a logarithm. Both are shown to give the word of `expo a` whenever `a` is in range.
-/
module

public import Idealize.ShloMosaic.PureOps.Ideal.Laws
public import Idealize.ShloMosaic.Lib.IdealHost

@[expose] public section

set_option maxRecDepth 16384

noncomputable section

namespace Cert.Mx

open Idealize.ShloMosaic

/-- The power of two `2^z` as an extended real. -/
def pow2 (z : ℤ) : EReal := (((2 : ℝ) ^ z : ℝ) : EReal)

/-- The f32 nearest to `1 / 448`. -/
def inv448 : ℝ := 9586981 * (2 : ℝ) ^ (-32 : ℤ)

/-- The largest finite bf16. -/
def bf16Max : ℝ := 255 * (2 : ℝ) ^ (120 : ℤ)

/-- The exponent of the greatest power of two at most `r`. -/
def ilog (r : ℝ) : ℤ := ⌊Real.log r / Real.log 2⌋

/-- A power of two is at most `r` just when its exponent is at most `ilog r`. -/
theorem zpow_le_iff {r : ℝ} (hr : 0 < r) (z : ℤ) : (2 : ℝ) ^ z ≤ r ↔ z ≤ ilog r := by
  unfold ilog
  rw [Int.le_floor, le_div_iff₀ (Real.log_pos (by norm_num)), ← Real.log_zpow]
  exact (Real.log_le_log_iff (by positivity) hr).symm

/-- The shared exponent of a block whose largest magnitude is `a`: zero for a block of zeros, else the integer `e` with
    `2^(e-1) ≤ a / 448 < 2^e`. -/
def expo (a : EReal) : ℤ := if a = 0 then 0 else ilog (a.toReal * inv448) + 1

/-- What the precondition says of a block's largest magnitude `a`: it is zero, or its quotient by 448 is at least the
    least normal f32 and `a` is at most the largest finite bf16. -/
def InRange (a : EReal) : Prop := a = 0 ∨ (pow2 (-126) ≤ a * ((inv448 : ℝ) : EReal) ∧ a ≤ ((bf16Max : ℝ) : EReal))

/-- A power of two is positive. -/
theorem pow2_pos (z : ℤ) : 0 < pow2 z := by
  unfold pow2; exact_mod_cast zpow_pos (by norm_num : (0 : ℝ) < 2) z

/-- A power of two is finite. -/
theorem pow2_ne_top (z : ℤ) : pow2 z ≠ ⊤ := EReal.coe_ne_top _

/-! ### Patterns -/

/-- What an f32 pattern denotes, from its three fields. -/
theorem ofBits_eq (b : BitVec 32) {neg : Bool} {ex fr : ℕ} (ha : (b.extractLsb' 31 1 == 1#1) = neg)
    (hb : (b.extractLsb' 23 8).toNat = ex) (hc : (b.extractLsb' 0 23).toNat = fr) :
    Ideal.ofBits .f32 b = if ex = 255 then (if fr = 0 then (if neg then ⊥ else ⊤) else ⊥)
      else if ex = 0 then (((if neg then -1 else 1) * fr * (2 : ℝ) ^ (1 - 127 - 23 : ℤ) : ℝ) : EReal)
      else (((if neg then -1 else 1) * (2 ^ 23 + fr : ℕ) * (2 : ℝ) ^ ((ex : ℤ) - 127 - 23) : ℝ) : EReal) := by
  subst ha hb hc
  simp only [Ideal.ofBits, Ideal.ieee]
  norm_num

/-- The fields of a word below 256 shifted up by 23 bits. -/
theorem fields_pow2 : ∀ t : Fin 256, ((BitVec.ofNat 32 t.val <<< 23).extractLsb' 31 1 == 1#1) = false
    ∧ ((BitVec.ofNat 32 t.val <<< 23).extractLsb' 23 8).toNat = t.val
    ∧ ((BitVec.ofNat 32 t.val <<< 23).extractLsb' 0 23).toNat = 0 := by decide +kernel

/-- The f32 whose exponent field is `t` and whose other bits are zero is `2^(t-127)`. -/
theorem ofBits_field (t : ℕ) (h1 : 1 ≤ t) (h2 : t ≤ 254) :
    Ideal.ofBits .f32 (BitVec.ofNat 32 t <<< 23) = pow2 ((t : ℤ) - 127) := by
  obtain ⟨ha, hb, hc⟩ := fields_pow2 ⟨t, by omega⟩
  dsimp only at ha hb hc
  generalize BitVec.ofNat 32 t <<< 23 = b at ha hb hc ⊢
  rw [ofBits_eq b ha hb hc, if_neg (by omega), if_neg (by omega)]
  unfold pow2
  congr 1
  simp only [Bool.false_eq_true, if_false, one_mul, Nat.add_zero]
  rw [show ((2 ^ 23 : ℕ) : ℝ) = (2 : ℝ) ^ (23 : ℤ) by norm_num, ← zpow_add₀ (by norm_num : (2 : ℝ) ≠ 0)]
  congr 1
  push_cast
  norm_num

/-- The f32 whose exponent field is 255 and whose other bits are zero is `+∞`. -/
theorem ofBits_field_255 : Ideal.ofBits .f32 (BitVec.ofNat 32 255 <<< 23) = ⊤ := by
  obtain ⟨ha, hb, hc⟩ := fields_pow2 ⟨255, by omega⟩
  rw [ofBits_eq _ ha hb hc]
  norm_num

/-- The f32 nearest to 1/448, as a real number. -/
theorem ofBits_inv448 : Ideal.ofBits .f32 0x3B124925#32 = ((inv448 : ℝ) : EReal) := by
  have ha : ((0x3B124925#32).extractLsb' 31 1 == 1#1) = false := by decide
  have hb : ((0x3B124925#32).extractLsb' 23 8).toNat = 118 := by decide
  have hc : ((0x3B124925#32).extractLsb' 0 23).toNat = 1198373 := by decide
  rw [ofBits_eq _ ha hb hc]
  unfold inv448
  norm_num

/-- The greatest finite bf16, as a real number. -/
theorem ofBits_bf16Max : Ideal.ofBits .f32 0x7F7F0000#32 = ((bf16Max : ℝ) : EReal) := by
  have ha : ((0x7F7F0000#32).extractLsb' 31 1 == 1#1) = false := by decide
  have hb : ((0x7F7F0000#32).extractLsb' 23 8).toNat = 254 := by decide
  have hc : ((0x7F7F0000#32).extractLsb' 0 23).toNat = 8323072 := by decide
  rw [ofBits_eq _ ha hb hc]
  unfold bf16Max
  norm_num

/-- The least positive normal f32 is 2^-126. -/
theorem ofBits_least_normal : Ideal.ofBits .f32 0x00800000#32 = pow2 (-126) :=
  ofBits_field 1 (by norm_num) (by norm_num)

/-- The f32 pattern of two. -/
theorem ofBits_two : Ideal.ofBits .f32 0x40000000#32 = ((2 : ℝ) : EReal) := by
  rw [show Ideal.ofBits .f32 0x40000000#32 = _ from ofBits_field 128 (by norm_num) (by norm_num)]
  unfold pow2
  norm_num

/-- The f32 pattern of minus infinity. -/
theorem ofBits_neg_inf : Ideal.ofBits .f32 0xFF800000#32 = ⊥ := by
  have ha : ((0xFF800000#32).extractLsb' 31 1 == 1#1) = true := by decide
  have hb : ((0xFF800000#32).extractLsb' 23 8).toNat = 255 := by decide
  have hc : ((0xFF800000#32).extractLsb' 0 23).toNat = 0 := by decide
  rw [ofBits_eq _ ha hb hc]
  norm_num

/-! ### Facts of a block in range -/

/-- A magnitude in range that is not zero is a real number whose quotient lies between the bounds. -/
theorem InRange.real {a : EReal} (h : InRange a) (h0 : a ≠ 0) :
    ∃ r : ℝ, a = (r : EReal) ∧ (2 : ℝ) ^ (-126 : ℤ) ≤ r * inv448 ∧ r ≤ bf16Max := by
  obtain h | ⟨h1, h2⟩ := h
  · exact absurd h h0
  · have hi : 0 < inv448 := by unfold inv448; positivity
    induction a with
    | bot =>
      rw [EReal.bot_mul_coe_of_pos hi] at h1
      exact absurd (lt_of_lt_of_le (pow2_pos _) h1) (by simp)
    | top => exact absurd h2 (by simp)
    | coe r =>
      refine ⟨r, rfl, ?_, by exact_mod_cast h2⟩
      unfold pow2 at h1
      exact_mod_cast h1

/-- The shared exponent of a block in range, and what it says of the quotient. -/
theorem expo_spec {r : ℝ} (h1 : (2 : ℝ) ^ (-126 : ℤ) ≤ r * inv448) (h2 : r ≤ bf16Max) :
    -125 ≤ expo (r : EReal) ∧ expo (r : EReal) ≤ 121 ∧ expo (r : EReal) = ilog (r * inv448) + 1 ∧ 0 < r * inv448 := by
  have hp : 0 < r * inv448 := lt_of_lt_of_le (by positivity) h1
  have hi : 0 < inv448 := by unfold inv448; positivity
  have hr : r ≠ 0 := by rintro rfl; simp at hp
  have he : expo (r : EReal) = ilog (r * inv448) + 1 := by
    unfold expo; rw [if_neg (by exact_mod_cast hr), EReal.toReal_coe]
  have hl : (-126 : ℤ) ≤ ilog (r * inv448) :=
    (zpow_le_iff hp _).mp h1
  have hu : ilog (r * inv448) < 121 := by
    refine lt_of_not_ge fun hh => absurd ((zpow_le_iff hp _).mpr hh) (not_le.mpr ?_)
    calc r * inv448 ≤ bf16Max * inv448 := by gcongr
      _ < _ := by unfold bf16Max inv448; norm_num
  exact ⟨by omega, by omega, he, hp⟩

/-- The exponent of zero is zero. -/
theorem expo_zero : expo 0 = 0 := by unfold expo; rw [if_pos rfl]

/-- The shared exponent of a block in range lies in `[-125, 121]`. -/
theorem InRange.bounds {a : EReal} (h : InRange a) : -125 ≤ expo a ∧ expo a ≤ 121 := by
  by_cases h0 : a = 0
  · rw [h0, expo_zero]; omega
  · obtain ⟨r, rfl, h1, h2⟩ := h.real h0
    obtain ⟨ha, hb, -, -⟩ := expo_spec h1 h2
    exact ⟨ha, hb⟩

/-! ### The kernel's word -/

/-- The f32 that a word shifted up by 23 bits denotes. -/
def fieldVal (f : BitVec 32) : EReal := Ideal.ofBits .f32 (IntOp.shli .vector f 23#32)

/-- One step of the binary search: take the bit `b` into the field `f` if `p` is at least the power of two that results. -/
def step (p : EReal) (b f : BitVec 32) : BitVec 32 :=
  Scalar.select (Ideal.cmp .oge p (fieldVal (IntOp.addi f b))) (IntOp.addi f b) f

/-- The eight steps. -/
def field (p : EReal) : BitVec 32 :=
  step p 1#32 (step p 2#32 (step p 4#32 (step p 8#32 (step p 16#32 (step p 32#32 (step p 64#32 (step p 128#32 0#32)))))))

/-- An exponent field `t` of a normal number stands for 2^(t-127). -/
theorem fieldVal_ofNat (t : ℕ) (h1 : 1 ≤ t) (h2 : t ≤ 254) : fieldVal (BitVec.ofNat 32 t) = pow2 ((t : ℤ) - 127) := by
  rw [← ofBits_field t h1 h2]; rfl

/-- The exponent field 255 stands for infinity. -/
theorem fieldVal_255 : fieldVal (BitVec.ofNat 32 255) = ⊤ := ofBits_field_255

/-- A step on a field of `k`, where `p` is at least the power of field `t` just when `t ≤ n`. -/
theorem step_ofNat {p : EReal} {n : ℕ} (hp : ∀ t : ℕ, 1 ≤ t → t ≤ 255 → (fieldVal (BitVec.ofNat 32 t) ≤ p ↔ t ≤ n)) (b k : ℕ)
    (h1 : 1 ≤ k + b) (h2 : k + b ≤ 255) :
    step p (BitVec.ofNat 32 b) (BitVec.ofNat 32 k) = BitVec.ofNat 32 (if k + b ≤ n then k + b else k) := by
  unfold step
  have ha : IntOp.addi (BitVec.ofNat 32 k) (BitVec.ofNat 32 b) = BitVec.ofNat 32 (k + b) := by
    unfold IntOp.addi; exact (BitVec.ofNat_add ..).symm
  rw [ha]
  unfold Scalar.select Ideal.cmp
  by_cases h : k + b ≤ n
  · have := (hp (k + b) h1 h2).mpr h
    simp [h, this]
  · have : ¬ fieldVal (BitVec.ofNat 32 (k + b)) ≤ p := fun hh => h ((hp (k + b) h1 h2).mp hh)
    simp [h, this]

/-- The binary search finds the greatest field whose power of two is at most `p`. -/
theorem field_eq {p : EReal} {n : ℕ} (hn : n ≤ 255)
    (hp : ∀ t : ℕ, 1 ≤ t → t ≤ 255 → (fieldVal (BitVec.ofNat 32 t) ≤ p ↔ t ≤ n)) : field p = BitVec.ofNat 32 n := by
  have s := fun b k h1 h2 => step_ofNat hp b k h1 h2
  unfold field
  rw [show (0#32 : BitVec 32) = BitVec.ofNat 32 0 from rfl]
  rw [s 128 0 (by norm_num) (by norm_num)]
  generalize hk1 : (if 0 + 128 ≤ n then 0 + 128 else 0) = k1
  have b1 : k1 ≤ n ∧ n < k1 + 128 ∧ k1 ≤ 128 := by subst hk1; split_ifs <;> omega
  rw [s 64 k1 (by omega) (by omega)]
  generalize hk2 : (if k1 + 64 ≤ n then k1 + 64 else k1) = k2
  have b2 : k2 ≤ n ∧ n < k2 + 64 ∧ k2 ≤ 192 := by subst hk2; split_ifs <;> omega
  rw [s 32 k2 (by omega) (by omega)]
  generalize hk3 : (if k2 + 32 ≤ n then k2 + 32 else k2) = k3
  have b3 : k3 ≤ n ∧ n < k3 + 32 ∧ k3 ≤ 224 := by subst hk3; split_ifs <;> omega
  rw [s 16 k3 (by omega) (by omega)]
  generalize hk4 : (if k3 + 16 ≤ n then k3 + 16 else k3) = k4
  have b4 : k4 ≤ n ∧ n < k4 + 16 ∧ k4 ≤ 240 := by subst hk4; split_ifs <;> omega
  rw [s 8 k4 (by omega) (by omega)]
  generalize hk5 : (if k4 + 8 ≤ n then k4 + 8 else k4) = k5
  have b5 : k5 ≤ n ∧ n < k5 + 8 ∧ k5 ≤ 248 := by subst hk5; split_ifs <;> omega
  rw [s 4 k5 (by omega) (by omega)]
  generalize hk6 : (if k5 + 4 ≤ n then k5 + 4 else k5) = k6
  have b6 : k6 ≤ n ∧ n < k6 + 4 ∧ k6 ≤ 252 := by subst hk6; split_ifs <;> omega
  rw [s 2 k6 (by omega) (by omega)]
  generalize hk7 : (if k6 + 2 ≤ n then k6 + 2 else k6) = k7
  have b7 : k7 ≤ n ∧ n < k7 + 2 ∧ k7 ≤ 254 := by subst hk7; split_ifs <;> omega
  rw [s 1 k7 (by omega) (by omega)]
  congr 1
  split_ifs <;> omega

/-- The kernel's exponent word of a block whose largest magnitude is `a`. -/
def kernelExpo (a : EReal) : BitVec 32 :=
  let p := a * Ideal.ofBits .f32 0x3B124925#32
  let f := field (max p (-p))
  let e := Scalar.select (IntOp.ori (IntOp.cmpi .eq f 0#32) (IntOp.cmpi .eq f 255#32)) 0#32 (IntOp.subi f 126#32)
  let e := Scalar.select (Ideal.cmp .oeq a (Ideal.ofBits .f32 0x00000000#32)) 0#32 e
  IntOp.minsi 127#32 (IntOp.maxsi 4294967169#32 e)

/-- The reference's exponent word of a block whose largest magnitude is `a`. -/
def refExpo (a : EReal) : BitVec 32 :=
  let q := Ideal.div (Ideal.log (a * Ideal.ofBits .f32 0x3B124925#32)) (Ideal.log (Ideal.ofBits .f32 0x40000000#32))
  let e := IntOp.addi (Ideal.fptosi 32 (Ideal.liftRound Int.floor q)) 1#32
  let e := Scalar.select (Ideal.cmp .oeq a (Ideal.ofBits .f32 0x00000000#32)) 0#32 e
  IntOp.minsi 127#32 (IntOp.maxsi 4294967169#32 e)

/-- On the field `n` of a normal f32, the word less 126 passes both clips unchanged. -/
theorem words_field : ∀ n : Fin 256, 1 ≤ n.val → n.val ≤ 247 →
    IntOp.minsi 127#32 (IntOp.maxsi 4294967169#32 (Scalar.select (IntOp.ori (IntOp.cmpi .eq (BitVec.ofNat 32 n.val) 0#32)
      (IntOp.cmpi .eq (BitVec.ofNat 32 n.val) 255#32)) 0#32 (IntOp.subi (BitVec.ofNat 32 n.val) 126#32)))
      = BitVec.ofInt 32 ((n.val : ℤ) - 126)
    ∧ IntOp.minsi 127#32 (IntOp.maxsi 4294967169#32 (IntOp.addi (BitVec.ofInt 32 ((n.val : ℤ) - 127)) 1#32))
      = BitVec.ofInt 32 ((n.val : ℤ) - 126) := by decide +kernel

/-- Comparing with the pattern of zero decides whether the value is zero. -/
theorem cmp_oeq_zero (a : EReal) : Ideal.cmp .oeq a (Ideal.ofBits .f32 0x00000000#32) = BitVec.ofBool (decide (a = 0)) := by
  rw [Ideal.ofBits_zero_f32]; rfl

/-- The kernel's exponent word of a block in range is the word of its shared exponent. -/
theorem kernelExpo_eq {a : EReal} (h : InRange a) : kernelExpo a = BitVec.ofInt 32 (expo a) := by
  unfold kernelExpo
  dsimp only
  rw [cmp_oeq_zero]
  by_cases h0 : a = 0
  · rw [h0, expo_zero]; simp only [decide_true]; decide +kernel
  · obtain ⟨r, rfl, h1, h2⟩ := h.real h0
    obtain ⟨ha, hb, he, hp⟩ := expo_spec h1 h2
    rw [ofBits_inv448, ← EReal.coe_mul, max_eq_left (by rw [← EReal.coe_neg]; exact_mod_cast (by linarith))]
    obtain ⟨n, hn⟩ : ∃ n : ℕ, (n : ℤ) = ilog (r * inv448) + 127 := ⟨_, Int.toNat_of_nonneg (by omega)⟩
    have hf : field ((r * inv448 : ℝ) : EReal) = BitVec.ofNat 32 n := by
      refine field_eq (by omega) fun t t1 t2 => ?_
      by_cases ht : t = 255
      · subst ht; rw [fieldVal_255]
        exact ⟨fun h => absurd (top_le_iff.mp h) (EReal.coe_ne_top _), fun h => by omega⟩
      · rw [fieldVal_ofNat t t1 (by omega)]
        unfold pow2
        rw [EReal.coe_le_coe_iff, zpow_le_iff hp]
        omega
    simp only [h0, decide_false, hf]
    have := (words_field ⟨n, by omega⟩ (by simp only; omega) (by simp only; omega)).1
    rw [show expo (r : EReal) = (n : ℤ) - 126 by omega, ← this]
    rfl

/-- The reference's exponent word of a block in range is the word of its shared exponent. -/
theorem refExpo_eq {a : EReal} (h : InRange a) : refExpo a = BitVec.ofInt 32 (expo a) := by
  unfold refExpo
  dsimp only
  rw [cmp_oeq_zero]
  by_cases h0 : a = 0
  · rw [h0, expo_zero]; simp only [decide_true]; rfl
  · obtain ⟨r, rfl, h1, h2⟩ := h.real h0
    obtain ⟨ha, hb, he, hp⟩ := expo_spec h1 h2
    have hl : (0 : ℝ) < Real.log 2 := Real.log_pos (by norm_num)
    have hlog : ∀ x : ℝ, 0 < x → Ideal.log (x : EReal) = ((Real.log x : ℝ) : EReal) := fun x hx => by
      show (if x ≤ 0 then ⊥ else (Real.log x : EReal)) = _
      rw [if_neg (by linarith)]
    rw [ofBits_inv448, ofBits_two, ← EReal.coe_mul, hlog _ hp, hlog _ (by norm_num)]
    have hdiv : Ideal.div ((Real.log (r * inv448) : ℝ) : EReal) ((Real.log 2 : ℝ) : EReal)
        = ((Real.log (r * inv448) / Real.log 2 : ℝ) : EReal) := by
      unfold Ideal.div
      rw [if_neg (by exact_mod_cast hl.ne'), ← EReal.coe_inv, ← EReal.coe_mul]; rfl
    rw [hdiv, show Ideal.liftRound Int.floor ((Real.log (r * inv448) / Real.log 2 : ℝ) : EReal) = (((ilog (r * inv448) : ℤ) : ℝ) : EReal)
      from rfl]
    have hfp : Ideal.fptosi 32 (((ilog (r * inv448) : ℤ) : ℝ) : EReal) = BitVec.ofInt 32 (ilog (r * inv448)) := by
      show BitVec.ofInt 32 (max _ (min _ (if (0 : ℝ) ≤ ((ilog (r * inv448) : ℤ) : ℝ) then _ else _))) = _
      rw [Int.floor_intCast, Int.ceil_intCast, ite_self]
      congr 1
      norm_num
      omega
    obtain ⟨n, hn⟩ : ∃ n : ℕ, (n : ℤ) = ilog (r * inv448) + 127 := ⟨_, Int.toNat_of_nonneg (by omega)⟩
    simp only [h0, decide_false, hfp]
    have := (words_field ⟨n, by omega⟩ (by simp only; omega) (by simp only; omega)).2
    rw [show expo (r : EReal) = (n : ℤ) - 126 by omega, ← this, show ilog (r * inv448) = (n : ℤ) - 127 by omega]
    rfl

/-! ### The scales that the words give -/

/-- The words that both programs make of an exponent `n - 127`, by running through all of them. -/
theorem words_scale : ∀ n : Fin 256, 2 ≤ n.val → n.val ≤ 248 →
    IntOp.subi 127#32 (BitVec.ofInt 32 ((n.val : ℤ) - 127)) = BitVec.ofNat 32 (254 - n.val)
    ∧ IntOp.addi 127#32 (BitVec.ofInt 32 ((n.val : ℤ) - 127)) = BitVec.ofNat 32 n.val
    ∧ (IntOp.subi 0#32 (BitVec.ofInt 32 ((n.val : ℤ) - 127))).toInt = 127 - (n.val : ℤ)
    ∧ (IntOp.subi (((IntOp.addi (BitVec.ofInt 32 ((n.val : ℤ) - 127)) 127#32).setWidth 8).setWidth 32) 127#32).toInt
      = (n.val : ℤ) - 127 := by decide +kernel

/-- `exp2` of an integer is that power of two. -/
theorem exp2_int (z : ℤ) : Ideal.exp2 (((z : ℤ) : ℝ) : EReal) = pow2 z := by
  show ((Real.rpow 2 (z : ℝ) : ℝ) : EReal) = _
  unfold pow2
  rw [← Real.rpow_intCast]; rfl

/-- The kernel's two scales of a block: the powers of two with exponents minus and plus the shared exponent. -/
theorem kernel_scales {e : ℤ} (h1 : -125 ≤ e) (h2 : e ≤ 121) :
    fieldVal (IntOp.subi 127#32 (BitVec.ofInt 32 e)) = pow2 (-e) ∧ fieldVal (IntOp.addi 127#32 (BitVec.ofInt 32 e)) = pow2 e := by
  obtain ⟨n, hn⟩ : ∃ n : ℕ, (n : ℤ) = e + 127 := ⟨_, Int.toNat_of_nonneg (by omega)⟩
  obtain ⟨ha, hb, -, -⟩ := words_scale ⟨n, by omega⟩ (by simp only; omega) (by simp only; omega)
  rw [show e = (n : ℤ) - 127 by omega]
  simp only at ha hb
  rw [ha, hb, fieldVal_ofNat _ (by omega) (by omega), fieldVal_ofNat _ (by omega) (by omega)]
  exact ⟨by congr 1; omega, rfl⟩

/-- The reference's two scales of a block, the second read back from its byte: the same powers of two. -/
theorem ref_scales {e : ℤ} (h1 : -125 ≤ e) (h2 : e ≤ 121) :
    Ideal.exp2 (((IntOp.subi 0#32 (BitVec.ofInt 32 e)).toInt : ℝ) : EReal) = pow2 (-e)
    ∧ Ideal.exp2 (((IntOp.subi (((IntOp.addi (BitVec.ofInt 32 e) 127#32).setWidth 8).setWidth 32) 127#32).toInt : ℝ) : EReal)
      = pow2 e := by
  obtain ⟨n, hn⟩ : ∃ n : ℕ, (n : ℤ) = e + 127 := ⟨_, Int.toNat_of_nonneg (by omega)⟩
  obtain ⟨-, -, hc, hd⟩ := words_scale ⟨n, by omega⟩ (by simp only; omega) (by simp only; omega)
  rw [show e = (n : ℤ) - 127 by omega]
  simp only at hc hd
  rw [hc, hd, exp2_int, exp2_int]
  exact ⟨by congr 1; omega, rfl⟩

/-- A scale code between 1 and 254, widened to a word, and with its bias taken off. -/
theorem words_code : ∀ b : BitVec 8, 1 ≤ b.toNat → b.toNat ≤ 254 →
    (b.setWidth 32) = BitVec.ofNat 32 b.toNat ∧ (IntOp.subi (b.setWidth 32) 127#32).toInt = (b.toNat : ℤ) - 127 := by decide +kernel

/-- A scale code of `w` between 1 and 254 is the same power of two in the kernel and in the reference. -/
theorem code_scales {b : BitVec 8} (h1 : 1 ≤ b.toNat) (h2 : b.toNat ≤ 254) :
    fieldVal (b.setWidth 32) = pow2 ((b.toNat : ℤ) - 127)
    ∧ Ideal.exp2 (((IntOp.subi (b.setWidth 32) 127#32).toInt : ℝ) : EReal) = pow2 ((b.toNat : ℤ) - 127) := by
  obtain ⟨ha, hb⟩ := words_code b h1 h2
  rw [hb, exp2_int, ha, fieldVal_ofNat _ h1 h2]
  exact ⟨rfl, rfl⟩

end Cert.Mx

end
-- ==== Proof.Spec.lean ====
/-
  The mathematics that kernel and reference share, on one row of 4096 values: blocks of 32 lanes, each block's largest
  magnitude and shared exponent, the codes, the dequantised values; and the equation between the two ways of taking the
  product, scales multiplied in before the sum over all lanes (the kernel) or after the sum over each block (the
  reference). All over the extended reals, where multiplying by a power of two distributes over any sum.
-/
module

public import proofs.«01_k».proof.Proof.Exponent

@[expose] public section

set_option maxRecDepth 16384

noncomputable section

namespace Cert.Mx

open Idealize.ShloMosaic
open scoped BigOperators

/-- The largest magnitude of 32 values. -/
def absmax (x : Fin 32 → EReal) : EReal := Finset.univ.fold max ⊥ fun j => max (x j) (-x j)

/-- Lane `j` of block `g`. -/
def lane (g : Fin 128) (j : Fin 32) : Fin 4096 := ⟨32 * g.val + j.val, by omega⟩

/-- The block of a lane. -/
def blk (k : Fin 4096) : Fin 128 := ⟨k.val / 32, by omega⟩

/-- The largest magnitude in block `g` of a row. -/
def blockMax (v : Fin 4096 → EReal) (g : Fin 128) : EReal := absmax fun j => v (lane g j)

/-- The shared exponent of block `g` of a row. -/
def blockExpo (v : Fin 4096 → EReal) (g : Fin 128) : ℤ := expo (blockMax v g)

/-- The code of lane `k`: the value over its block's scale, clipped to ±448. -/
def code (v : Fin 4096 → EReal) (k : Fin 4096) : EReal :=
  min (Ideal.ofBits .f32 0x43E00000#32) (max (Ideal.ofBits .f32 0xC3E00000#32) (v k * pow2 (-blockExpo v (blk k))))

/-- The scale code of block `g`: its exponent with bias 127, in a byte. -/
def scaleCode (v : Fin 4096 → EReal) (g : Fin 128) : BitVec 8 :=
  (IntOp.addi (BitVec.ofInt 32 (blockExpo v g)) 127#32).setWidth 8

/-- The dequantised value of lane `k`: its code times its block's scale. -/
def deq (v : Fin 4096 → EReal) (k : Fin 4096) : EReal := code v k * pow2 (blockExpo v (blk k))

/-- The scale that a scale code of the second operand stands for. -/
def wScale (b : BitVec 8) : EReal := pow2 ((b.toNat : ℤ) - 127)

/-- The dequantised second operand at lane `k`. -/
def wDeq (w : Fin 4096 → EReal) (s : Fin 128 → BitVec 8) (k : Fin 4096) : EReal := w k * wScale (s (blk k))

/-- Lane `j` of block `g` is in block `g`. -/
theorem blk_lane (g : Fin 128) (j : Fin 32) : blk (lane g j) = g := Fin.ext (by show (32 * g.val + j.val) / 32 = g.val; omega)

/-- Multiplying by a power of two distributes over a sum. -/
theorem sum_mul_pow2 {ι : Type} (s : Finset ι) (f : ι → EReal) (z : ℤ) : (∑ j ∈ s, f j) * pow2 z = ∑ j ∈ s, f j * pow2 z := by
  classical
  induction s using Finset.induction_on with
  | empty => simp
  | insert a s ha ih =>
    rw [Finset.sum_insert ha, Finset.sum_insert ha, EReal.right_distrib_of_nonneg_of_ne_top (pow2_pos z).le (pow2_ne_top z), ih]

/-- A sum over the lanes is a sum over the blocks of the sums over each block's lanes. -/
theorem sum_lanes (f : Fin 4096 → EReal) : ∑ k, f k = ∑ g : Fin 128, ∑ j : Fin 32, f (lane g j) := by
  rw [← Fintype.sum_prod_type', ← Equiv.sum_comp (finProdFinEquiv : Fin 128 × Fin 32 ≃ Fin 4096)]
  refine Finset.sum_congr rfl fun p _ => ?_
  congr 1
  exact Fin.ext (by show p.2.val + 32 * p.1.val = 32 * p.1.val + p.2.val; omega)

/-- The product of the dequantised rows, lane by lane, is the sum over the blocks of the product of the codes times the
    two scales. -/
theorem dot_eq (v w : Fin 4096 → EReal) (s : Fin 128 → BitVec 8) :
    ∑ k, deq v k * wDeq w s k
      = ∑ g, (∑ j, code v (lane g j) * w (lane g j)) * pow2 (blockExpo v g) * wScale (s g) := by
  rw [sum_lanes]
  refine Finset.sum_congr rfl fun g _ => ?_
  unfold wScale
  rw [sum_mul_pow2, sum_mul_pow2]
  refine Finset.sum_congr rfl fun j _ => ?_
  unfold deq wDeq wScale
  rw [blk_lane, mul_mul_mul_comm, ← mul_assoc]

/-! ### The largest magnitude by rotation -/

/-- One step on 128 lanes: the larger of a lane and the lane `s` before it, around the end. -/
def rollMax (s : ℕ) (u : Fin 128 → EReal) (l : Fin 128) : EReal :=
  max (u l) (u ⟨(l.val + 128 - s % 128) % 128, Nat.mod_lt _ (by norm_num)⟩)

/-- A lane of `m` is the greatest of the `n` lanes of `u` that end at it. -/
def Window (u m : Fin 128 → EReal) (n : ℕ) : Prop :=
  ∀ (l : Fin 128) (c : EReal), m l ≤ c ↔ ∀ i < n, u ⟨(l.val + 128 - i) % 128, Nat.mod_lt _ (by norm_num)⟩ ≤ c

/-- Rotating by the width of the window doubles it. -/
theorem window_roll {u m : Fin 128 → EReal} {n : ℕ} (hn : n ≤ 16) (h : Window u m n) : Window u (rollMax n m) (n + n) := by
  intro l c
  unfold rollMax
  rw [max_le_iff, h, h]
  have hr : ∀ i, i < n → (⟨((l.val + 128 - n % 128) % 128 + 128 - i) % 128, Nat.mod_lt _ (by norm_num)⟩ : Fin 128)
      = ⟨(l.val + 128 - (n + i)) % 128, Nat.mod_lt _ (by norm_num)⟩ := fun i hi => Fin.ext (by
    show ((l.val + 128 - n % 128) % 128 + 128 - i) % 128 = (l.val + 128 - (n + i)) % 128
    have := l.isLt; omega)
  constructor
  · rintro ⟨h1, h2⟩ i hi
    by_cases hin : i < n
    · exact h1 i hin
    · have := h2 (i - n) (by omega)
      rw [hr _ (by omega)] at this
      simpa only [show n + (i - n) = i by omega] using this
  · intro h1
    refine ⟨fun i hi => h1 i (by omega), fun i hi => ?_⟩
    show u ⟨((l.val + 128 - n % 128) % 128 + 128 - i) % 128, _⟩ ≤ c
    rw [hr i hi]; exact h1 (n + i) (by omega)

/-- After the five steps the last lane of a block holds the greatest of the block's 32 lanes. -/
theorem roll_last (u : Fin 128 → EReal) (p : Fin 4) :
    rollMax 16 (rollMax 8 (rollMax 4 (rollMax 2 (rollMax 1 u)))) ⟨32 * p.val + 31, by omega⟩
      = Finset.univ.fold max ⊥ fun j : Fin 32 => u ⟨32 * p.val + j.val, by omega⟩ := by
  have h0 : Window u u 1 := fun l c => by
    have hl : ∀ h, (⟨(l.val + 128 - 0) % 128, h⟩ : Fin 128) = l := fun h => Fin.ext (by show (l.val + 128 - 0) % 128 = l.val; have := l.isLt; omega)
    constructor
    · intro h i hi
      obtain rfl : i = 0 := by omega
      rw [hl]; exact h
    · intro h
      have := h 0 (by norm_num)
      rwa [hl] at this
  have h5 := window_roll (by norm_num) (window_roll (by norm_num) (window_roll (by norm_num) (window_roll (by norm_num) (window_roll (by norm_num) h0))))
  refine eq_of_forall_ge_iff fun c => ?_
  rw [Finset.fold_max_le]
  refine (h5 _ c).trans ?_
  constructor
  · intro h
    refine ⟨bot_le, fun j _ => ?_⟩
    have := h (31 - j.val) (by omega)
    refine le_of_eq_of_le (congrArg u (Fin.ext ?_)) this
    show 32 * p.val + j.val = (32 * p.val + 31 + 128 - (31 - j.val)) % 128
    omega
  · rintro ⟨-, h⟩ i hi
    refine le_of_eq_of_le (congrArg u (Fin.ext ?_)) (h ⟨31 - i, by omega⟩ (Finset.mem_univ _))
    show (32 * p.val + 31 + 128 - i) % 128 = 32 * p.val + (31 - i)
    omega

/-! ### One-hot matrices -/

/-- A decided bit widened to a word and read as a number is 1 or 0. -/
theorem bit_value (b : Bool) : ((((BitVec.ofBool b).setWidth 32).toInt : ℝ) : EReal) = if b then 1 else 0 := by
  cases b
  · rw [show ((BitVec.ofBool false).setWidth 32).toInt = 0 from by decide]; simp
  · rw [show ((BitVec.ofBool true).setWidth 32).toInt = 1 from by decide]; simp

/-- Floor division by 32 of a word, as truncating division with a correction of sign. -/
def floorDiv32 (k : BitVec 32) : BitVec 32 :=
  Scalar.select (IntOp.andi
      (IntOp.cmpi .ne (IntOp.subi ((IntOp.cmpi .sgt k 0#32).setWidth 32) ((IntOp.cmpi .slt k 0#32).setWidth 32))
        (Scalar.subi (Scalar.extui (Scalar.cmpi .sgt 32#32 0#32)) (Scalar.extui (Scalar.cmpi .slt 32#32 0#32))))
      (IntOp.cmpi .ne (IntOp.remsi .vector k 32#32) 0#32))
    (IntOp.subi (IntOp.divsi .vector k 32#32) 1#32) (IntOp.divsi .vector k 32#32)

/-- The floored quotient of a lane number by 32. -/
theorem floorDiv32_ofNat : ∀ k : Fin 4096, floorDiv32 (BitVec.ofNat 32 k.val) = BitVec.ofNat 32 (k.val / 32) := by
  decide +kernel

/-- A sum against a one-hot column picks one term. -/
theorem sum_one_hot {n : ℕ} (f : Fin n → EReal) (b : Fin n → Bool) (k : Fin n) (h : ∀ i, b i = decide (i = k)) :
    ∑ i, f i * (if b i then 1 else 0) = f k := by
  rw [Finset.sum_eq_single k]
  · rw [h]; simp
  · intro i _ hi; rw [h]; simp [hi]
  · intro h; exact absurd (Finset.mem_univ k) h

end Cert.Mx

end
-- ==== Proof.Amax.lean ====
/-
  The first kernel's largest magnitudes. The body takes 32 slabs of 128 lanes, in each a running maximum of magnitudes by
  five rotations, lays the slabs side by side again and picks the last lane of every 32 by a product with a one-hot
  matrix: entry (r, g) is the largest magnitude in block g of row r.
-/
module

public import proofs.«01_k».proof.Proof.Gen.KernelIdeal.Frame
public import proofs.«01_k».proof.Proof.Spec
public import Idealize.ShloMosaic.Lib.Pipeline.Value
public import Idealize.ShloMosaic.Lib.MatmulPlain
public import Idealize.ShloMosaic.Lib.KernelVsHost

@[expose] public section

set_option maxRecDepth 16384

noncomputable section

namespace Cert.Mx

open Idealize.ShloMosaic Idealize.ShloMosaic.ValueIdx Cert.KernelIdeal Cert.KernelIdeal.Gen
open scoped BigOperators

/-- A 256 by 4096 block of values. -/
abbrev Block : Type := Vec Ideal S256x4096 .bf16

/-- A 256 by 128 slab of values. -/
abbrev Slab : Type := FVec Ideal S256x128 .bf16

/-- One step of the running maximum: rotate the lanes by `s` and take the larger. -/
def roll (s : BitVec 32) (m : Slab) : Slab := maximumf m (dynamicRotate 1 s none m rotates_S256x128_d1)

/-- Slab `q`, lanes `128 q` to `128 q + 127`, lies inside the block. -/
theorem slab_slices (q : Fin 32) : S256x4096.Slices ![0, 128 * q.val] S256x128 :=
  ⟨rfl, fun a => match a with
    | ⟨0, _⟩ => by show 0 + 256 ≤ 256; omega
    | ⟨1, _⟩ => by show 128 * q.val + 128 ≤ 4096; omega⟩

/-- The magnitudes of slab `q`. -/
def mags (x : Block) (q : Fin 32) : Slab := absf (extractStridedSlice S256x128 ![0, 128 * q.val] x (slab_slices q))

/-- Slab `q` after the five steps. -/
def slab (x : Block) (q : Fin 32) : Slab := roll 16#32 (roll 8#32 (roll 4#32 (roll 2#32 (roll 1#32 (mags x q)))))

/-- The slabs side by side. -/
def runMax (x : Block) : FVec Ideal S256x4096 .bf16 :=
  concatenate S256x4096 1 (List.ofFn fun q : Fin 32 => (⟨S256x128, slab x q⟩ : (s : Shape) × (s.Idx → EReal)))
    concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1

/-- The one-hot matrix of the last lanes. -/
def lastLane : FVec Ideal S4096x128 .bf16 :=
  truncf .bf16 (sitofp .f32 (extui 32 (cmpi .eq (iota .tc S4096x128 32 [0] iota_S4096x128_d0_w32)
    (addi (muli (iota .tc S4096x128 32 [1] iota_S4096x128_d1_w32) (broadcast S4096x128 32#32)) (broadcast S4096x128 31#32))) natLt_1_32)) bitsLt_bf16_f32

/-- What the first kernel's body computes for the blocks' largest magnitudes. -/
def amax (x0 : Block) : FVec Ideal S256x128 .f32 :=
  k0_pay48 (k0_pay62 x0) (k0_pay63 x0) (k0_pay64 x0) (k0_pay65 x0) (k0_pay66 x0) (k0_pay67 x0) (k0_pay68 x0) (k0_pay69 x0) (k0_pay70 x0) (k0_pay71 x0) (k0_pay72 x0) (k0_pay73 x0) (k0_pay74 x0) (k0_pay75 x0) (k0_pay76 x0) (k0_pay77 x0) (k0_pay78 x0) (k0_pay79 x0) (k0_pay80 x0) (k0_pay81 x0) (k0_pay82 x0) (k0_pay83 x0) (k0_pay84 x0) (k0_pay85 x0) (k0_pay86 x0) (k0_pay87 x0) (k0_pay88 x0) (k0_pay89 x0) (k0_pay90 x0) (k0_pay91 x0) (k0_pay92 x0) (k0_pay93 x0)

/-- It is the product of the running maxima with the one-hot matrix. -/
theorem amax_eq (x0 : Block) : amax x0
    = matmul dot_S256x4096_S4096x128_S256x128_1_0_0_1_n_n none (runMax (k0_pay61 x0)) lastLane (constant S256x128 .f32 0x00000000#32) := rfl

/-- The block as loaded is the block. -/
theorem loaded (x0 : Block) : k0_pay61 x0 = x0 := by
  unfold k0_pay61 k0_pay3
  dsimp only
  rw [shapeCast_self]
  exact View.ld_unit_zero (show (![0, 0] : Fin 2 → Nat) = fun _ => 0 by funext a; fin_cases a <;> rfl) _ _

/-- A slab maximised with its rotation holds at lane `l` the larger of that lane and the lane `s` before it, around the end. -/
theorem roll_apply (s : BitVec 32) (m : Slab) (r : Fin 256) (l : Fin 128) :
    roll s m (ix2 r l) = rollMax s.toNat (fun l => m (ix2 r l)) l := by
  show max (m (ix2 r l)) (dynamicRotate 1 s none m rotates_S256x128_d1 (ix2 r l)) = _
  rw [dynamicRotate_apply 1 s m rotates_S256x128_d1 (ix2 r l)
    (ix2 r ⟨(l.val + 128 - s.toNat % 128) % 128, Nat.mod_lt _ (by norm_num)⟩) (fun b => match b with
      | ⟨0, _⟩ => rfl
      | ⟨1, _⟩ => rfl)]
  rfl

/-- A slab at the last lane of its `p`-th block is that block's largest magnitude. -/
theorem slab_apply (x : Block) (q : Fin 32) (r : Fin 256) (p : Fin 4) :
    slab x q (ix2 r ⟨32 * p.val + 31, by omega⟩) = blockMax (fun k => x (ix2 r k)) ⟨4 * q.val + p.val, by omega⟩ := by
  unfold slab
  have e : ∀ (s : BitVec 32) (m : Slab), (fun l => roll s m (ix2 r l)) = rollMax s.toNat (fun l => m (ix2 r l)) :=
    fun s m => funext fun l => roll_apply s m r l
  rw [roll_apply, e, e, e, e]
  refine (roll_last (fun l => mags x q (ix2 r l)) p).trans ?_
  unfold blockMax absmax
  congr 1
  funext j
  have hs : mags x q (ix2 r ⟨32 * p.val + j.val, by omega⟩)
      = max (x (ix2 r (lane ⟨4 * q.val + p.val, by omega⟩ j))) (-x (ix2 r (lane ⟨4 * q.val + p.val, by omega⟩ j))) := by
    show max (extractStridedSlice S256x128 ![0, 128 * q.val] x (slab_slices q) _) (-extractStridedSlice S256x128 ![0, 128 * q.val] x (slab_slices q) _) = _
    rw [extractStridedSlice_apply ![0, 128 * q.val] x (slab_slices q) _ (ix2 r (lane ⟨4 * q.val + p.val, by omega⟩ j)) (fun a => match a with
      | ⟨0, _⟩ => by show r.val = 0 + r.val; omega
      | ⟨1, _⟩ => by show 32 * (4 * q.val + p.val) + j.val = 128 * q.val + (32 * p.val + j.val); omega)]
  exact hs

/-- The running maxima at the last lane of block `g`. -/
theorem runMax_apply (x : Block) (r : Fin 256) (g : Fin 128) :
    runMax x (ix2 r (lane g ⟨31, by norm_num⟩)) = blockMax (fun k => x (ix2 r k)) g := by
  unfold runMax
  refine (concatenate_ofFn_apply (t := S256x4096) (s₁ := S256x128) 1 (fun q => slab x q) _ rfl 128 rfl _ ⟨g.val / 4, by omega⟩
    (by show (32 * g.val + 31) / 128 = g.val / 4; omega) (ix2 r ⟨32 * (g.val % 4) + 31, by omega⟩)
    (by show 32 * (g.val % 4) + 31 = (32 * g.val + 31) % 128; omega)
    (fun b hb => match b with
      | ⟨0, _⟩ => rfl
      | ⟨1, _⟩ => absurd rfl hb)).trans ?_
  rw [slab_apply x ⟨g.val / 4, by omega⟩ r ⟨g.val % 4, by omega⟩]
  congr 1
  exact Fin.ext (by show 4 * (g.val / 4) + g.val % 4 = g.val; omega)

/-- The selecting matrix is one where row `k` is the last lane of block `g`, else zero. -/
theorem lastLane_apply (k : Fin 4096) (g : Fin 128) :
    lastLane (ix2 k g) = if decide (k = lane g ⟨31, by norm_num⟩) then 1 else 0 := by
  rw [← bit_value]
  show ((((IntOp.cmpi .eq (iota .tc S4096x128 32 [0] iota_S4096x128_d0_w32 (ix2 k g))
    (IntOp.addi (IntOp.muli (iota .tc S4096x128 32 [1] iota_S4096x128_d1_w32 (ix2 k g)) 32#32) 31#32)).setWidth 32).toInt : ℝ) : EReal) = _
  rw [iota_single_apply, iota_single_apply]
  have : IntOp.cmpi .eq (BitVec.ofNat 32 k.val) (IntOp.addi (IntOp.muli (BitVec.ofNat 32 g.val) 32#32) 31#32)
      = BitVec.ofBool (decide (k = lane g ⟨31, by norm_num⟩)) := by
    show BitVec.ofBool (BitVec.ofNat 32 k.val == BitVec.ofNat 32 g.val * 32#32 + 31#32) = _
    congr 1
    rw [Bool.eq_iff_iff, beq_iff_eq, decide_eq_true_eq, ← BitVec.toNat_inj, Fin.ext_iff]
    simp only [BitVec.toNat_add, BitVec.toNat_mul, BitVec.toNat_ofNat]
    show _ ↔ k.val = 32 * g.val + 31
    have := k.isLt; have := g.isLt
    omega
  exact congrArg (fun b : BitVec 1 => (((b.setWidth 32).toInt : ℝ) : EReal)) this

/-- The largest magnitude of block `g` of row `r`. -/
theorem amax_apply (x0 : Block) (r : Fin 256) (g : Fin 128) : amax x0 (ix2 r g) = blockMax (fun k => x0 (ix2 r k)) g := by
  rw [amax_eq, loaded]
  simp only [matmul]
  rw [show dot_S256x4096_S4096x128_S256x128_1_0_0_1_n_n = DotDims.plain 256 4096 128 from rfl]
  refine (Ideal.matmul_plain_apply none (runMax x0) lastLane _ r g).trans ?_
  rw [show (constant S256x128 .f32 0x00000000#32 : FVec Ideal S256x128 .f32) (ix2 r g) = 0 from Ideal.ofBits_zero_f32, zero_add]
  rw [← runMax_apply x0 r g, ← sum_one_hot (fun k => runMax x0 (ix2 r k)) (fun k => decide (k = lane g ⟨31, by norm_num⟩)) _ fun _ => rfl]
  exact Finset.sum_congr rfl fun k _ => by rw [lastLane_apply]

end Cert.Mx

end
-- ==== Proof.QuantBlock.lean ====
/-
  The first kernel on one block of 256 rows: the exponents from the largest magnitudes, the scales spread over the lanes
  by a product with a one-hot matrix, and the three results of the body at an index — codes, scale codes, dequantised values.
-/
module

public import proofs.«01_k».proof.Proof.Amax

@[expose] public section

set_option maxRecDepth 16384

noncomputable section

namespace Cert.Mx

open Idealize.ShloMosaic Idealize.ShloMosaic.ValueIdx Cert.KernelIdeal Cert.KernelIdeal.Gen
open scoped BigOperators

/-- The offsets of a whole block are zero. -/
theorem zero_off : (![0, 0] : Fin 2 → Nat) = fun _ => 0 := by funext a; fin_cases a <;> rfl

/-! ### Spreading block values over the lanes -/

/-- The one-hot matrix is 1 at (g, k) just when lane `k` is in block `g`. -/
theorem spread_apply (g : Fin 128) (k : Fin 4096) :
    (k0_pay58 (F := Ideal)) (ix2 g k) = if decide (g = blk k) then 1 else 0 := by
  rw [← bit_value]
  show ((((IntOp.cmpi .eq (iota .tc S128x4096 32 [0] iota_S128x4096_d0_w32 (ix2 g k))
    (floorDiv32 (iota .tc S128x4096 32 [1] iota_S128x4096_d1_w32 (ix2 g k)))).setWidth 32).toInt : ℝ) : EReal) = _
  rw [iota_single_apply, iota_single_apply]
  have : IntOp.cmpi .eq (BitVec.ofNat 32 g.val) (floorDiv32 (BitVec.ofNat 32 k.val)) = BitVec.ofBool (decide (g = blk k)) := by
    rw [floorDiv32_ofNat]
    show BitVec.ofBool (BitVec.ofNat 32 g.val == BitVec.ofNat 32 (k.val / 32)) = _
    congr 1
    rw [Bool.eq_iff_iff, beq_iff_eq, decide_eq_true_eq, ← BitVec.toNat_inj, Fin.ext_iff]
    simp only [BitVec.toNat_ofNat]
    show _ ↔ g.val = k.val / 32
    have := k.isLt; have := g.isLt
    omega
  exact congrArg (fun b : BitVec 1 => (((b.setWidth 32).toInt : ℝ) : EReal)) this

/-- The product of block values with it: lane `k` gets the value of its block. -/
theorem spread_dot (v : FVec Ideal S256x128 .bf16) (r : Fin 256) (k : Fin 4096) :
    matmul dot_S256x128_S128x4096_S256x4096_1_0_0_1_n_n none v (k0_pay58 (F := Ideal)) (constant S256x4096 .f32 0x00000000#32) (ix2 r k)
      = v (ix2 r (blk k)) := by
  simp only [matmul]
  rw [show dot_S256x128_S128x4096_S256x4096_1_0_0_1_n_n = DotDims.plain 256 128 4096 from rfl]
  refine (Ideal.matmul_plain_apply none v (k0_pay58 (F := Ideal)) _ r k).trans ?_
  rw [show (constant S256x4096 .f32 0x00000000#32 : FVec Ideal S256x4096 .f32) (ix2 r k) = 0 from Ideal.ofBits_zero_f32, zero_add]
  rw [← sum_one_hot (fun g => v (ix2 r g)) (fun g => decide (g = blk k)) _ fun _ => rfl]
  exact Finset.sum_congr rfl fun g _ => by rw [spread_apply]

/-! ### The exponents -/

/-- The exponent words of a block. -/
def expoWords (x0 : Block) : IVec S256x128 32 := k0_pay55 (k0_pay94 x0) (k0_pay95 x0) (k0_pay96 x0)

/-- One step of the binary search on vectors. -/
def vstep (p : FVec Ideal S256x128 .f32) (b : BitVec 32) (f : IVec S256x128 32) : IVec S256x128 32 :=
  select (cmpf .oge p (bitcastToFloat .f32 (shli (addi f (broadcast S256x128 b)) (broadcast S256x128 23#32)))) (addi f (broadcast S256x128 b)) f

/-- A step of the search, at an index. -/
theorem vstep_apply (p : FVec Ideal S256x128 .f32) (b : BitVec 32) (f : IVec S256x128 32) (i : S256x128.Idx) :
    vstep p b f i = step (p i) b (f i) := rfl

/-- The magnitudes of the quotients by 448. -/
def quot (a : FVec Ideal S256x128 .f32) : FVec Ideal S256x128 .f32 :=
  absf (mulf a (broadcast S256x128 (Scalar.ofBits .f32 0x3B124925#32)))

/-- The first three steps. -/
def steps3 (p : FVec Ideal S256x128 .f32) : IVec S256x128 32 :=
  vstep p 32#32 (vstep p 64#32 (vstep p 128#32 (broadcast S256x128 0#32)))

/-- The last five. -/
def steps5 (p : FVec Ideal S256x128 .f32) (f : IVec S256x128 32) : IVec S256x128 32 :=
  vstep p 1#32 (vstep p 2#32 (vstep p 4#32 (vstep p 8#32 (vstep p 16#32 f))))

/-- The exponent from the field found. -/
def fromField (f : IVec S256x128 32) : IVec S256x128 32 :=
  select (ori (cmpi .eq f (broadcast S256x128 0#32)) (cmpi .eq f (broadcast S256x128 255#32))) (broadcast S256x128 0#32)
    (subi f (broadcast S256x128 126#32))

/-- The last five steps and the rest of the exponent, from the field found so far. -/
theorem search_eq (p : FVec Ideal S256x128 .f32) (f : IVec S256x128 32) :
    k0_pay52 p f (addi f (broadcast S256x128 16#32)) = fromField (steps5 p f) := rfl

/-- The exponent words in stages. -/
theorem words_eq (x0 : Block) : expoWords x0
    = k0_pay55 (k0_pay52 (quot (amax x0)) (steps3 (quot (amax x0))) (addi (steps3 (quot (amax x0))) (broadcast S256x128 16#32)))
      (k0_pay53 (amax x0)) k0_pay54 := rfl

/-- The exponent word of a field, at an index. -/
theorem fromField_apply (f : IVec S256x128 32) (i : S256x128.Idx) : fromField f i
    = Scalar.select (IntOp.ori (IntOp.cmpi .eq (f i) 0#32) (IntOp.cmpi .eq (f i) 255#32)) 0#32 (IntOp.subi (f i) 126#32) := rfl

/-- The eight steps, at an index, are the search on one number. -/
theorem steps_apply (p : FVec Ideal S256x128 .f32) (i : S256x128.Idx) : steps5 p (steps3 p) i = field (p i) := by
  unfold steps5 steps3 field
  simp only [vstep_apply]
  rfl

/-- The exponent words, at an index. -/
theorem expoWords_apply (x0 : Block) (i : S256x128.Idx) : expoWords x0 i = kernelExpo (amax x0 i) := by
  rw [words_eq, search_eq]
  generalize amax x0 = a
  have h := fromField_apply (steps5 (quot a) (steps3 (quot a))) i
  rw [steps_apply] at h
  generalize fromField (steps5 (quot a) (steps3 (quot a))) = e at h ⊢
  show IntOp.minsi 127#32 (IntOp.maxsi 4294967169#32 (Scalar.select (Ideal.cmp .oeq (a i) (Ideal.ofBits .f32 0x00000000#32)) 0#32 (e i))) = _
  rw [h]
  rfl

/-- Every block of 32 lanes of the rows is in range. -/
def RowsInRange (x0 : Block) : Prop := ∀ (r : Fin 256) (g : Fin 128), InRange (blockMax (fun k => x0 (ix2 r k)) g)

/-- The exponent word of block `g` of row `r` is the word of its shared exponent. -/
theorem expoWords_eq {x0 : Block} (h : RowsInRange x0) (r : Fin 256) (g : Fin 128) :
    expoWords x0 (ix2 r g) = BitVec.ofInt 32 (blockExpo (fun k => x0 (ix2 r k)) g) := by
  rw [expoWords_apply, amax_apply, kernelExpo_eq (h r g)]; rfl

/-! ### The body's results -/

/-- The clipped quotients are the codes. -/
theorem clipped_apply {x0 : Block} (h : RowsInRange x0) (r : Fin 256) (k : Fin 4096) :
    k0_pay97 x0 (ix2 r k) = code (fun k => x0 (ix2 r k)) k := by
  have hs := spread_dot (k0_pay57 (F := Ideal) (k0_pay94 x0) (k0_pay95 x0) (k0_pay96 x0)) r k
  have he : k0_pay57 (F := Ideal) (k0_pay94 x0) (k0_pay95 x0) (k0_pay96 x0) (ix2 r (blk k))
      = fieldVal (IntOp.subi 127#32 (expoWords x0 (ix2 r (blk k)))) := rfl
  rw [he, expoWords_eq h] at hs
  replace hs := hs.trans (kernel_scales (h r (blk k)).bounds.1 (h r (blk k)).bounds.2).1
  show min (Ideal.ofBits .f32 0x43E00000#32) (max (Ideal.ofBits .f32 0xC3E00000#32) (k0_pay61 x0 (ix2 r k)
    * matmul dot_S256x128_S128x4096_S256x4096_1_0_0_1_n_n none (k0_pay57 (F := Ideal) (k0_pay94 x0) (k0_pay95 x0) (k0_pay96 x0))
      (k0_pay58 (F := Ideal)) (constant S256x4096 .f32 0x00000000#32) (ix2 r k))) = _
  rw [hs, loaded]
  rfl

/-- The first result: the codes. -/
theorem out0_1_apply {x0 : Block} (h : RowsInRange x0) (r : Fin 256) (k : Fin 4096) :
    out0_1 x0 (ix2 r k) = code (fun k => x0 (ix2 r k)) k := by
  unfold out0_1
  refine (congrFun (View.canon_unit_zero (S := S256x4096) zero_off _ _) _).trans ?_
  exact clipped_apply h r k

/-- The second result: the scale codes. -/
theorem out0_2_apply {x0 : Block} (h : RowsInRange x0) (r : Fin 256) (g : Fin 128) :
    out0_2 x0 (ix2 r g) = scaleCode (fun k => x0 (ix2 r k)) g := by
  unfold out0_2
  refine (congrFun (View.canon_unit_zero (S := S256x128) zero_off _ _) _).trans ?_
  show (IntOp.addi (expoWords x0 (ix2 r g)) 127#32).setWidth 8 = _
  rw [expoWords_eq h]
  rfl

/-- The third result: the dequantised values. -/
theorem out0_3_apply {x0 : Block} (h : RowsInRange x0) (r : Fin 256) (k : Fin 4096) :
    out0_3 x0 (ix2 r k) = deq (fun k => x0 (ix2 r k)) k := by
  unfold out0_3
  refine (congrFun (View.canon_unit_zero (S := S256x4096) zero_off _ _) _).trans ?_
  let sc : FVec Ideal S256x128 .bf16 := fun i => fieldVal (IntOp.addi 127#32 (expoWords x0 i))
  have hs : sc (ix2 r (blk k)) = pow2 (blockExpo (fun k => x0 (ix2 r k)) (blk k)) := by
    show fieldVal (IntOp.addi 127#32 (expoWords x0 (ix2 r (blk k)))) = _
    rw [expoWords_eq h]
    exact (kernel_scales (h r (blk k)).bounds.1 (h r (blk k)).bounds.2).2
  show k0_pay97 x0 (ix2 r k) * matmul dot_S256x128_S128x4096_S256x4096_1_0_0_1_n_n none sc (k0_pay58 (F := Ideal))
    (constant S256x4096 .f32 0x00000000#32) (ix2 r k) = _
  rw [spread_dot, clipped_apply h, hs]
  rfl

/-! ### The second kernel on a block of 256 rows -/

/-- Its result: the second operand dequantised, where no scale code is 0 or 255. -/
theorem out1_2_apply (w : Vec Ideal S256x4096 .fp8e4m3) (s : Vec Ideal S256x128 .i8)
    (h : ∀ (r : Fin 256) (g : Fin 128), 1 ≤ (s (ix2 r g) : BitVec 8).toNat ∧ (s (ix2 r g) : BitVec 8).toNat ≤ 254) (r : Fin 256) (k : Fin 4096) :
    out1_2 w s (ix2 r k) = wDeq (fun k => w (ix2 r k)) (fun g => s (ix2 r g)) k := by
  unfold out1_2
  rw [show View.ld s r1_0 = s from View.ld_unit_zero zero_off _ _, show View.ld w r1_1 = w from View.ld_unit_zero zero_off _ _]
  refine (congrFun (View.canon_unit_zero (S := S256x4096) zero_off _ _) _).trans ?_
  let sc : FVec Ideal S256x128 .bf16 := fun i => fieldVal ((s i : BitVec 8).setWidth 32)
  have hs : sc (ix2 r (blk k)) = wScale (s (ix2 r (blk k))) := (code_scales (h r (blk k)).1 (h r (blk k)).2).1
  show w (ix2 r k) * matmul dot_S256x128_S128x4096_S256x4096_1_0_0_1_n_n none sc (k0_pay58 (F := Ideal))
    (constant S256x4096 .f32 0x00000000#32) (ix2 r k) = _
  rw [spread_dot, hs]
  rfl

/-! ### The third kernel on one tile -/

/-- Its result: the product of the two blocks of dequantised rows. -/
theorem out2_2_apply (a : Vec Ideal S1024x4096 .bf16) (b : Vec Ideal S768x4096 .bf16) (z : Fin 1) (r : Fin 1024) (n : Fin 768) :
    out2_2 a b (ix3 z r n) = ∑ k : Fin 4096, a (ix2 r k) * b (ix2 n k) := by
  unfold out2_2
  rw [show View.ld a r2_0 = a from View.ld_unit_zero zero_off _ _, show View.ld b r2_1 = b from View.ld_unit_zero zero_off _ _]
  refine (congrFun (View.canon_unit_zero (S := S1x1024x768) (by funext a; fin_cases a <;> rfl) _ _) _).trans ?_
  unfold k2_pay1
  rw [shapeCast_self, shapeCast_self]
  refine (shapeCast_addUnit_apply _ _ _ _).trans ?_
  have hj : (fun a : Fin 2 => ix3 z r n a.succ) = ix2 r n := by funext a; match a with | ⟨0, _⟩ => rfl | ⟨1, _⟩ => rfl
  refine (congrArg _ hj).trans ?_
  refine (Ideal.matmul_transposedRhs_apply (φ₁ := .bf16) (φ₂ := .bf16) none a b (constant S1024x768 .f32 0x00000000#32) r n).trans ?_
  rw [show (constant S1024x768 .f32 0x00000000#32 : FVec Ideal S1024x768 .f32) (ix2 r n) = 0 from Ideal.ofBits_zero_f32, zero_add]

end Cert.Mx

end
-- ==== Proof.Values.lean ====
module

public import proofs.«01_k».proof.Proof.Spec

@[expose] public section

/-!
# The three results as functions of the three arguments

The tokens `x`, the weights' codes `w` and the weights' scale codes `s`, as arrays over their indices. Both programs are
shown to leave these three functions.
-/

noncomputable section

namespace Cert.Mx

open Idealize.ShloMosaic Idealize.ShloMosaic.ValueIdx
open scoped BigOperators

/-- The shape of the tokens and of their codes. -/
abbrev TokensS : Shape := ⟨3, ![3, 2048, 4096]⟩
/-- The shape of the tokens' scale codes. -/
abbrev TokenScalesS : Shape := ⟨3, ![3, 2048, 128]⟩
/-- The shape of the weights. -/
abbrev WeightsS : Shape := ⟨2, ![4608, 4096]⟩
/-- The shape of the weights' scale codes. -/
abbrev WeightScalesS : Shape := ⟨2, ![4608, 128]⟩
/-- The shape of the product. -/
abbrev ProductS : Shape := ⟨3, ![3, 2048, 4608]⟩

/-- The product of the dequantised tokens with the dequantised weights. -/
def yVal (x : TokensS.Idx → EReal) (w : WeightsS.Idx → EReal) (s : WeightScalesS.Idx → BitVec 8) :
    ProductS.Idx → EReal := fun i =>
  ∑ k : Fin 4096, deq (fun k => x (ix3 (i 0) (i 1) k)) k * wDeq (fun k => w (ix2 (i 2) k)) (fun g => s (ix2 (i 2) g)) k

/-- The codes of every token. -/
def codeVal (x : TokensS.Idx → EReal) : TokensS.Idx → EReal := fun i => code (fun k => x (ix3 (i 0) (i 1) k)) (i 2)

/-- The scale codes of every token. -/
def scaleVal (x : TokensS.Idx → EReal) : TokenScalesS.Idx → BitVec 8 :=
  fun i => scaleCode (fun k => x (ix3 (i 0) (i 1) k)) (i 2)

/-- Every block of 32 lanes of every token is in the range the kernel's exponent is right in. -/
def TokensInRange (x : TokensS.Idx → EReal) : Prop :=
  ∀ (b : Fin 3) (t : Fin 2048) (g : Fin 128), InRange (blockMax (fun k => x (ix3 b t k)) g)

/-- Every scale code of the weights is a finite power of two: neither 0 nor 255. -/
def ScalesFinite (s : WeightScalesS.Idx → BitVec 8) : Prop :=
  ∀ (n : Fin 4608) (g : Fin 128), 1 ≤ (s (ix2 n g)).toNat ∧ (s (ix2 n g)).toNat ≤ 254

end Cert.Mx

end
-- ==== Proof.Arrays.lean ====
module

public import proofs.«01_k».proof.Proof.QuantBlock
public import proofs.«01_k».proof.Proof.Values
public import proofs.«01_k».proof.Proof.Gen.KernelIdeal.Frame
public import Idealize.ShloMosaic.Lib.Pipeline.ValueKit.Geometry

@[expose] public section

set_option maxRecDepth 16384

/-!
# What the three calls' result arrays hold

Each call walks its grid once and writes every block of its results once. A block is the body's function of the
blocks it reads, so the whole result array is one function of the whole operand arrays.
-/

noncomputable section

namespace Cert.Mx

open Idealize.ShloMosaic Idealize.ShloMosaic.ValueIdx Cert.KernelIdeal Cert.KernelIdeal.Gen
open Idealize.ShloMosaic.Pipeline (Dat Cfg Window)
open Idealize.ShloMosaic.TcCoe
open scoped BigOperators

/-! ## Where the blocks lie -/

/-- At point `t` of the quantiser the blocks of `x` and of the three results begin at row block `t`. -/
theorem index0 : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) := by
  decide +kernel

/-- At point `t` of the weight call all three blocks begin at row block `t`. -/
theorem index1 : ∀ t : Fin grid1.N,
    (win1_0.index t 0 = t.val ∧ win1_0.index t 1 = 0) ∧ (win1_1.index t 0 = t.val ∧ win1_1.index t 1 = 0)
      ∧ (win1_2.index t 0 = t.val ∧ win1_2.index t 1 = 0) := by
  decide +kernel

/-- At point `t` of the product the left block is row block `t / 6`, the right one row block `t % 6`, and the result's
    block lies in matrix `t / 12`, row block `t / 6 % 2`, column block `t % 6`. -/
theorem index2 : ∀ t : Fin grid2.N,
    (win2_0.index t 0 = t.val / 6 ∧ win2_0.index t 1 = 0) ∧ (win2_1.index t 0 = t.val % 6 ∧ win2_1.index t 1 = 0)
      ∧ (win2_2.index t 0 = t.val / 12 ∧ win2_2.index t 1 = t.val / 6 % 2 ∧ win2_2.index t 2 = t.val % 6) := by
  decide +kernel

/-- The first call has 24 grid points. -/
theorem lt0 (t : Fin grid0.N) : t.val < 24 := lt_of_lt_of_eq t.isLt N_0
/-- The second call has 18 grid points. -/
theorem lt1 (t : Fin grid1.N) : t.val < 18 := lt_of_lt_of_eq t.isLt N_1
/-- The third call has 36 grid points. -/
theorem lt2 (t : Fin grid2.N) : t.val < 36 := lt_of_lt_of_eq t.isLt N_2

/-- Row `r` of the quantiser's block `t`, as a row of the array. -/
def row0 (t : Fin grid0.N) (r : Fin 256) : Fin 6144 := ⟨256 * t.val + r.val, by have := lt0 t; have := r.isLt; omega⟩

/-- Row `r` of the weight call's block `t`, as a row of the array. -/
def row1 (t : Fin grid1.N) (r : Fin 256) : Fin 4608 := ⟨256 * t.val + r.val, by have := lt1 t; have := r.isLt; omega⟩

/-- Row `r` of the left block of the product at point `t`, as a row of the array. -/
def rowA (t : Fin grid2.N) (r : Fin 1024) : Fin 6144 := ⟨1024 * (t.val / 6) + r.val, by have := lt2 t; have := r.isLt; omega⟩

/-- Row `n` of the right block of the product at point `t`, as a row of the array. -/
def rowB (t : Fin grid2.N) (n : Fin 768) : Fin 4608 := ⟨768 * (t.val % 6) + n.val, by have := lt2 t; have := n.isLt; omega⟩

/-- Token `b·2048 + s`: the row of the flattened tokens that batch `b`, position `s` is. -/
def tok (b : Fin 3) (s : Fin 2048) : Fin 6144 := ⟨2048 * b.val + s.val, by have := b.isLt; have := s.isLt; omega⟩

/-- Where entry `(r, k)` of window 0's block of call 0 lies in its array. -/
theorem emb0_0 (t : Fin grid0.N) (r : Fin 256) (k : Fin 4096) :
    (win0_0.rect t).emb (ix2 r k) = (ix2 (row0 t r) k : S6144x4096.Idx) := by
  funext a
  apply Fin.ext
  match a with
  | ⟨0, _⟩ =>
      show win0_0.index t 0 * 256 + 1 * r.val = (row0 t r).val
      rw [(index0 t).1.1]; unfold row0; dsimp only; omega
  | ⟨1, _⟩ =>
      show win0_0.index t 1 * 4096 + 1 * k.val = k.val
      rw [(index0 t).1.2]; omega

/-- Where entry `(r, k)` of window 1's block of call 0 lies in its array. -/
theorem emb0_1 (t : Fin grid0.N) (r : Fin 256) (k : Fin 4096) :
    (win0_1.rect t).emb (ix2 r k) = (ix2 (row0 t r) k : S6144x4096.Idx) := by
  funext a
  apply Fin.ext
  match a with
  | ⟨0, _⟩ =>
      show win0_1.index t 0 * 256 + 1 * r.val = (row0 t r).val
      rw [(index0 t).2.1.1]; unfold row0; dsimp only; omega
  | ⟨1, _⟩ =>
      show win0_1.index t 1 * 4096 + 1 * k.val = k.val
      rw [(index0 t).2.1.2]; omega

/-- Where entry `(r, k)` of window 2's block of call 0 lies in its array. -/
theorem emb0_2 (t : Fin grid0.N) (r : Fin 256) (k : Fin 128) :
    (win0_2.rect t).emb (ix2 r k) = (ix2 (row0 t r) k : S6144x128.Idx) := by
  funext a
  apply Fin.ext
  match a with
  | ⟨0, _⟩ =>
      show win0_2.index t 0 * 256 + 1 * r.val = (row0 t r).val
      rw [(index0 t).2.2.1.1]; unfold row0; dsimp only; omega
  | ⟨1, _⟩ =>
      show win0_2.index t 1 * 128 + 1 * k.val = k.val
      rw [(index0 t).2.2.1.2]; omega

/-- Where entry `(r, k)` of window 3's block of call 0 lies in its array. -/
theorem emb0_3 (t : Fin grid0.N) (r : Fin 256) (k : Fin 4096) :
    (win0_3.rect t).emb (ix2 r k) = (ix2 (row0 t r) k : S6144x4096.Idx) := by
  funext a
  apply Fin.ext
  match a with
  | ⟨0, _⟩ =>
      show win0_3.index t 0 * 256 + 1 * r.val = (row0 t r).val
      rw [(index0 t).2.2.2.1]; unfold row0; dsimp only; omega
  | ⟨1, _⟩ =>
      show win0_3.index t 1 * 4096 + 1 * k.val = k.val
      rw [(index0 t).2.2.2.2]; omega

/-- Where entry `(r, k)` of window 0's block of call 1 lies in its array. -/
theorem emb1_0 (t : Fin grid1.N) (r : Fin 256) (k : Fin 4096) :
    (win1_0.rect t).emb (ix2 r k) = (ix2 (row1 t r) k : S4608x4096.Idx) := by
  funext a
  apply Fin.ext
  match a with
  | ⟨0, _⟩ =>
      show win1_0.index t 0 * 256 + 1 * r.val = (row1 t r).val
      rw [(index1 t).1.1]; unfold row1; dsimp only; omega
  | ⟨1, _⟩ =>
      show win1_0.index t 1 * 4096 + 1 * k.val = k.val
      rw [(index1 t).1.2]; omega

/-- Where entry `(r, k)` of window 1's block of call 1 lies in its array. -/
theorem emb1_1 (t : Fin grid1.N) (r : Fin 256) (k : Fin 128) :
    (win1_1.rect t).emb (ix2 r k) = (ix2 (row1 t r) k : S4608x128.Idx) := by
  funext a
  apply Fin.ext
  match a with
  | ⟨0, _⟩ =>
      show win1_1.index t 0 * 256 + 1 * r.val = (row1 t r).val
      rw [(index1 t).2.1.1]; unfold row1; dsimp only; omega
  | ⟨1, _⟩ =>
      show win1_1.index t 1 * 128 + 1 * k.val = k.val
      rw [(index1 t).2.1.2]; omega

/-- Where entry `(r, k)` of window 2's block of call 1 lies in its array. -/
theorem emb1_2 (t : Fin grid1.N) (r : Fin 256) (k : Fin 4096) :
    (win1_2.rect t).emb (ix2 r k) = (ix2 (row1 t r) k : S4608x4096.Idx) := by
  funext a
  apply Fin.ext
  match a with
  | ⟨0, _⟩ =>
      show win1_2.index t 0 * 256 + 1 * r.val = (row1 t r).val
      rw [(index1 t).2.2.1]; unfold row1; dsimp only; omega
  | ⟨1, _⟩ =>
      show win1_2.index t 1 * 4096 + 1 * k.val = k.val
      rw [(index1 t).2.2.2]; omega

/-- Where entry `(r, k)` of window 0's block of call 2 lies in its array. -/
theorem emb2_0 (t : Fin grid2.N) (r : Fin 1024) (k : Fin 4096) :
    (win2_0.rect t).emb (ix2 r k) = (ix2 (rowA t r) k : S6144x4096.Idx) := by
  funext a
  apply Fin.ext
  match a with
  | ⟨0, _⟩ =>
      show win2_0.index t 0 * 1024 + 1 * r.val = (rowA t r).val
      rw [(index2 t).1.1]; unfold rowA; dsimp only; omega
  | ⟨1, _⟩ =>
      show win2_0.index t 1 * 4096 + 1 * k.val = k.val
      rw [(index2 t).1.2]; omega

/-- Where entry `(r, k)` of window 1's block of call 2 lies in its array. -/
theorem emb2_1 (t : Fin grid2.N) (r : Fin 768) (k : Fin 4096) :
    (win2_1.rect t).emb (ix2 r k) = (ix2 (rowB t r) k : S4608x4096.Idx) := by
  funext a
  apply Fin.ext
  match a with
  | ⟨0, _⟩ =>
      show win2_1.index t 0 * 768 + 1 * r.val = (rowB t r).val
      rw [(index2 t).2.1.1]; unfold rowB; dsimp only; omega
  | ⟨1, _⟩ =>
      show win2_1.index t 1 * 4096 + 1 * k.val = k.val
      rw [(index2 t).2.1.2]; omega

/-- Where entry `(0, r, n)` of the product's block lies in its array. -/
theorem emb2_2 (t : Fin grid2.N) (z : Fin 1) (r : Fin 1024) (n : Fin 768) :
    (win2_2.rect t).emb (ix3 z r n)
      = (ix3 ⟨t.val / 12, by have := lt2 t; omega⟩ ⟨1024 * (t.val / 6 % 2) + r.val, by have := r.isLt; omega⟩ (rowB t n)
          : S3x2048x4608.Idx) := by
  have hz : z.val = 0 := by have := z.isLt; omega
  funext a
  apply Fin.ext
  match a with
  | ⟨0, _⟩ =>
      show win2_2.index t 0 * 1 + 1 * z.val = t.val / 12
      rw [(index2 t).2.2.1]; omega
  | ⟨1, _⟩ =>
      show win2_2.index t 1 * 1024 + 1 * r.val = 1024 * (t.val / 6 % 2) + r.val
      rw [(index2 t).2.2.2.1]; omega
  | ⟨2, _⟩ =>
      show win2_2.index t 2 * 768 + 1 * n.val = (rowB t n).val
      rw [(index2 t).2.2.2.2]; unfold rowB; dsimp only; omega

/-- The row of the left operand that goes into a product block is the token of the place it is written to. -/
theorem rowA_eq (t : Fin grid2.N) (r : Fin 1024) :
    rowA t r = tok ⟨t.val / 12, by have := lt2 t; omega⟩ ⟨1024 * (t.val / 6 % 2) + r.val, by have := r.isLt; omega⟩ := by
  apply Fin.ext
  show 1024 * (t.val / 6) + r.val = 2048 * (t.val / 12) + (1024 * (t.val / 6 % 2) + r.val)
  omega

/-! ## The arrays -/

/-- The codes of every row of `X`. -/
def codesArr (X : S6144x4096.Idx → EReal) : S6144x4096.Idx → EReal := fun i => code (fun k => X (ix2 (i 0) k)) (i 1)

/-- The scale codes of every row of `X`. -/
def scalesArr (X : S6144x4096.Idx → EReal) : S6144x128.Idx → BitVec 8 := fun i => scaleCode (fun k => X (ix2 (i 0) k)) (i 1)

/-- Every row of `X` dequantised: code times the scale of its block. -/
def deqArr (X : S6144x4096.Idx → EReal) : S6144x4096.Idx → EReal := fun i => deq (fun k => X (ix2 (i 0) k)) (i 1)

/-- Every row of the weights dequantised. -/
def wDeqArr (w : S4608x4096.Idx → EReal) (s : S4608x128.Idx → BitVec 8) : S4608x4096.Idx → EReal :=
  fun i => wDeq (fun k => w (ix2 (i 0) k)) (fun g => s (ix2 (i 0) g)) (i 1)

/-- The product of token rows `A` with weight rows `B`. -/
def prodArr (A : S6144x4096.Idx → EReal) (B : S4608x4096.Idx → EReal) : S3x2048x4608.Idx → EReal :=
  fun i => ∑ k : Fin 4096, A (ix2 (tok (i 0) (i 1)) k) * B (ix2 (i 2) k)

/-- Every block of 32 lanes of every row of `X` is in the range the kernel's exponent is right in. -/
def AllInRange (X : S6144x4096.Idx → EReal) : Prop :=
  ∀ (r : Fin 6144) (g : Fin 128), InRange (blockMax (fun k => X (ix2 r k)) g)

section
variable (V : (c : Dev nD) → (b : Ref sig .tc) → Buf (Elt Ideal) ((c : Thread nD τ).loc b)) (c : Dev nD)

/-- The block of `x` at point `t` is rows `256 t …` of `x`. -/
theorem iblk0_apply (t : Fin grid0.N) (r : Fin 256) (k : Fin 4096) :
    iblk0 V c 0 t (ix2 r k) = (V c main_v0 : S6144x4096.Idx → EReal) (ix2 (row0 t r) k) := by
  show (V c main_v0 : S6144x4096.Idx → EReal) ((win0_0.rect t).emb (ix2 r k)) = _
  rw [emb0_0]

/-- The rows of each block are in range when all rows are. -/
theorem rows_in_range (h : AllInRange (V c main_v0)) (t : Fin grid0.N) : RowsInRange (iblk0 V c 0 t) := fun r g => by
  simp only [iblk0_apply]; exact h _ g

/-- The codes' array after the quantiser. -/
theorem codes_arr (h : AllInRange (V c main_v0)) : (dat0 V c).arrAt 1 cfg0.N = codesArr (V c main_v0) := by
  refine (dat0 V c).arrAt_eq_of_covers 1 _ (by decide +kernel) fun t _ y => ?_
  show (dat0 V c).after 1 t y = codesArr (V c main_v0) ((win0_1.rect t).emb y)
  rw [after0_1]
  obtain ⟨r, k, rfl⟩ : ∃ (r : Fin 256) (k : Fin 4096), y = (ix2 r k : S256x4096.Idx) := ⟨y 0, y 1, eq_ix2 y⟩
  refine (out0_1_apply (rows_in_range V c h t) r k).trans ?_
  rw [emb0_1]
  simp only [iblk0_apply]
  rfl

/-- The scale codes' array after the quantiser. -/
theorem scales_arr (h : AllInRange (V c main_v0)) : (dat0 V c).arrAt 2 cfg0.N = scalesArr (V c main_v0) := by
  refine (dat0 V c).arrAt_eq_of_covers 2 _ (by decide +kernel) fun t _ y => ?_
  show (dat0 V c).after 2 t y = scalesArr (V c main_v0) ((win0_2.rect t).emb y)
  rw [after0_2]
  obtain ⟨r, k, rfl⟩ : ∃ (r : Fin 256) (k : Fin 128), y = (ix2 r k : S256x128.Idx) := ⟨y 0, y 1, eq_ix2 y⟩
  refine (out0_2_apply (rows_in_range V c h t) r k).trans ?_
  rw [emb0_2]
  simp only [iblk0_apply]
  rfl

/-- The array of dequantised tokens after the quantiser. -/
theorem deq_arr (h : AllInRange (V c main_v0)) : (dat0 V c).arrAt 3 cfg0.N = deqArr (V c main_v0) := by
  refine (dat0 V c).arrAt_eq_of_covers 3 _ (by decide +kernel) fun t _ y => ?_
  show (dat0 V c).after 3 t y = deqArr (V c main_v0) ((win0_3.rect t).emb y)
  rw [after0_3]
  obtain ⟨r, k, rfl⟩ : ∃ (r : Fin 256) (k : Fin 4096), y = (ix2 r k : S256x4096.Idx) := ⟨y 0, y 1, eq_ix2 y⟩
  refine (out0_3_apply (rows_in_range V c h t) r k).trans ?_
  rw [emb0_3]
  simp only [iblk0_apply]
  rfl

/-- The weights' block at point `t` is rows `256 t …` of the weights, -/
theorem iblk1_0_apply (t : Fin grid1.N) (r : Fin 256) (k : Fin 4096) :
    iblk1 V c 0 t (ix2 r k) = (V c main_arg1 : S4608x4096.Idx → EReal) (ix2 (row1 t r) k) := by
  show (V c main_arg1 : S4608x4096.Idx → EReal) ((win1_0.rect t).emb (ix2 r k)) = _
  rw [emb1_0]

/-- and that of their scale codes the same rows of the scale codes. -/
theorem iblk1_1_apply (t : Fin grid1.N) (r : Fin 256) (g : Fin 128) :
    iblk1 V c 1 t (ix2 r g) = (V c main_arg2 : S4608x128.Idx → BitVec 8) (ix2 (row1 t r) g) := by
  show (V c main_arg2 : S4608x128.Idx → BitVec 8) ((win1_1.rect t).emb (ix2 r g)) = _
  rw [emb1_1]

/-- The array of dequantised weights after the second call. -/
theorem wdeq_arr (h : ScalesFinite (V c main_arg2)) :
    (dat1 V c).arrAt 2 cfg1.N = wDeqArr (V c main_arg1) (V c main_arg2) := by
  refine (dat1 V c).arrAt_eq_of_covers 2 _ (by decide +kernel) fun t _ y => ?_
  show (dat1 V c).after 2 t y = wDeqArr (V c main_arg1) (V c main_arg2) ((win1_2.rect t).emb y)
  rw [after1_2]
  obtain ⟨r, k, rfl⟩ : ∃ (r : Fin 256) (k : Fin 4096), y = (ix2 r k : S256x4096.Idx) := ⟨y 0, y 1, eq_ix2 y⟩
  refine (out1_2_apply _ _ (fun r g => by rw [iblk1_1_apply]; exact h _ g) r k).trans ?_
  rw [emb1_2]
  simp only [iblk1_0_apply, iblk1_1_apply]
  rfl

/-- The product's left block at point `t` is rows `1024 (t / 6) …` of the dequantised tokens, -/
theorem iblk2_0_apply (t : Fin grid2.N) (r : Fin 1024) (k : Fin 4096) :
    iblk2 V c 0 t (ix2 r k) = (V c main_v1_2 : S6144x4096.Idx → EReal) (ix2 (rowA t r) k) := by
  show (V c main_v1_2 : S6144x4096.Idx → EReal) ((win2_0.rect t).emb (ix2 r k)) = _
  rw [emb2_0]

/-- and its right block rows `768 (t % 6) …` of the dequantised weights. -/
theorem iblk2_1_apply (t : Fin grid2.N) (n : Fin 768) (k : Fin 4096) :
    iblk2 V c 1 t (ix2 n k) = (V c main_v2 : S4608x4096.Idx → EReal) (ix2 (rowB t n) k) := by
  show (V c main_v2 : S4608x4096.Idx → EReal) ((win2_1.rect t).emb (ix2 n k)) = _
  rw [emb2_1]

/-- The product's array after the third call. -/
theorem prod_arr : (dat2 V c).arrAt 2 cfg2.N = prodArr (V c main_v1_2) (V c main_v2) := by
  refine (dat2 V c).arrAt_eq_of_covers 2 _ (by decide +kernel) fun t _ y => ?_
  show (dat2 V c).after 2 t y = prodArr (V c main_v1_2) (V c main_v2) ((win2_2.rect t).emb y)
  rw [after2_2]
  obtain ⟨z, r, n, rfl⟩ : ∃ (z : Fin 1) (r : Fin 1024) (n : Fin 768), y = (ix3 z r n : S1x1024x768.Idx) :=
    ⟨y 0, y 1, y 2, eq_ix3 y⟩
  refine (out2_2_apply _ _ z r n).trans ?_
  rw [emb2_2]
  simp only [iblk2_0_apply, iblk2_1_apply, rowA_eq]
  rfl

end

end Cert.Mx
-- ==== Proof.Results.lean ====
module

public import proofs.«01_k».proof.Proof.Arrays
public import proofs.«01_k».proof.Proof.Values
public import Idealize.ShloMosaic.Lib.Tactic

@[expose] public section

set_option maxRecDepth 16384

/-!
# The kernel's three results as functions of its arguments

The calls read each other's arrays: the tokens flattened go into the quantiser, the dequantised tokens and weights into
the product, and two of the quantiser's arrays are folded back into the tokens' shape.
-/

noncomputable section

namespace Cert.Mx

open Idealize.ShloMosaic Idealize.ShloMosaic.ValueIdx Cert.KernelIdeal Cert.KernelIdeal.Gen
open Idealize.ShloMosaic.Pipeline (Dat Cfg Window)
open Idealize.ShloMosaic.TcCoe Idealize.ShloMosaic.Tactic
open scoped BigOperators

variable (m : (ℓ : Loc nD τ sig) → Buf (Elt Ideal) ℓ) (ρ : Dev nD → PrngReg) (c : Dev nD)

/-- The tokens as the kernel's argument holds them. -/
abbrev argX : S3x2048x4096.Idx → EReal := m ((c : Thread nD τ).loc main_arg0)

/-- The flattened tokens: row `2048 b + t` is token `(b, t)`. -/
theorem flat_apply (b : Fin 3) (t : Fin 2048) (k : Fin 4096) :
    (V1 m ρ c main_v0 : S6144x4096.Idx → EReal) (ix2 (tok b t) k) = argX m c (ix3 b t k) := by
  have e : (V1 m ρ c main_v0 : S6144x4096.Idx → EReal)
      = shapeCast S6144x4096 (argX m c) shapeCasts_S3x2048x4096_S6144x4096 := by
    show StableHlo.after hostOps0 (W0 m ρ c) (Proc.devRef .tc main_v0) = _
    after_results
    rfl
  rw [e]
  exact shapeCast_apply _ _ _ _ (by
    rw [Shape.rowMajor_val_two, Shape.rowMajor_val_three]
    show (b.val * 2048 + t.val) * 4096 + k.val = (2048 * b.val + t.val) * 4096 + k.val
    omega)

/-- So is the whole row. -/
theorem flat_row (b : Fin 3) (t : Fin 2048) :
    (fun k : Fin 4096 => (V1 m ρ c main_v0 : S6144x4096.Idx → EReal) (ix2 (tok b t) k)) = fun k => argX m c (ix3 b t k) :=
  funext (flat_apply m ρ c b t)

/-- Every row of the flattened tokens is a token. -/
theorem tok_div (r : Fin 6144) : r = tok ⟨r.val / 2048, by have := r.isLt; omega⟩ ⟨r.val % 2048, by omega⟩ := by
  apply Fin.ext
  show r.val = 2048 * (r.val / 2048) + r.val % 2048
  omega

/-- The flattened tokens are in range when the tokens are. -/
theorem flat_in_range (h : TokensInRange (argX m c)) : AllInRange (V1 m ρ c main_v0) := fun r g => by
  rw [tok_div r]
  exact (congrArg (fun v => InRange (blockMax v g)) (flat_row m ρ c _ _)).mpr (h _ _ g)

/-- The codes, folded back into the tokens' shape. -/
theorem W5_codes (h : TokensInRange (argX m c)) :
    W5 m ρ c (Proc.devRef .tc main_v4) = codeVal (argX m c) := by
  have e : (W5 m ρ c (Proc.devRef .tc main_v4) : S3x2048x4096.Idx → EReal)
      = shapeCast S3x2048x4096 (W4 m ρ c (Proc.devRef .tc main_v1_0) : S6144x4096.Idx → EReal) shapeCasts_S6144x4096_S3x2048x4096 := by
    show StableHlo.after hostOps3 (W4 m ρ c) (Proc.devRef .tc main_v4) = _
    after_results
    rfl
  have e' : (W4 m ρ c (Proc.devRef .tc main_v1_0) : S6144x4096.Idx → EReal) = codesArr (V1 m ρ c main_v0) :=
    (W4_of_ne m ρ c main_v1_0 (by decide)).trans ((W3_of_ne m ρ c main_v1_0 (by decide)).trans
      ((W2_arr m ρ c 1).trans (codes_arr (V1 m ρ) c (flat_in_range m ρ c h))))
  refine e.trans ?_
  rw [e']
  funext i
  obtain ⟨b, t, k, rfl⟩ : ∃ (b : Fin 3) (t : Fin 2048) (k : Fin 4096), i = ix3 b t k := ⟨i 0, i 1, i 2, eq_ix3 i⟩
  refine (shapeCast_apply _ _ _ (ix2 (tok b t) k) (by
    rw [Shape.rowMajor_val_two, Shape.rowMajor_val_three]
    show (2048 * b.val + t.val) * 4096 + k.val = (b.val * 2048 + t.val) * 4096 + k.val
    omega)).trans ?_
  show code (fun k => (V1 m ρ c main_v0 : S6144x4096.Idx → EReal) (ix2 (tok b t) k)) k = code (fun k => argX m c (ix3 b t k)) k
  exact congrArg (fun v => code v k) (flat_row m ρ c b t)

/-- The scale codes, folded back into the tokens' shape. -/
theorem W5_scales (h : TokensInRange (argX m c)) :
    W5 m ρ c (Proc.devRef .tc main_v5) = scaleVal (argX m c) := by
  have e : (W5 m ρ c (Proc.devRef .tc main_v5) : S3x2048x128.Idx → BitVec 8)
      = shapeCast S3x2048x128 (W4 m ρ c (Proc.devRef .tc main_v1_1) : S6144x128.Idx → BitVec 8) shapeCasts_S6144x128_S3x2048x128 := by
    show StableHlo.after hostOps3 (W4 m ρ c) (Proc.devRef .tc main_v5) = _
    after_results
    rfl
  have e' : (W4 m ρ c (Proc.devRef .tc main_v1_1) : S6144x128.Idx → BitVec 8) = scalesArr (V1 m ρ c main_v0) :=
    (W4_of_ne m ρ c main_v1_1 (by decide)).trans ((W3_of_ne m ρ c main_v1_1 (by decide)).trans
      ((W2_arr m ρ c 2).trans (scales_arr (V1 m ρ) c (flat_in_range m ρ c h))))
  refine e.trans ?_
  rw [e']
  funext i
  obtain ⟨b, t, g, rfl⟩ : ∃ (b : Fin 3) (t : Fin 2048) (g : Fin 128), i = ix3 b t g := ⟨i 0, i 1, i 2, eq_ix3 i⟩
  refine (shapeCast_apply _ _ _ (ix2 (tok b t) g) (by
    rw [Shape.rowMajor_val_two, Shape.rowMajor_val_three]
    show (2048 * b.val + t.val) * 128 + g.val = (b.val * 2048 + t.val) * 128 + g.val
    omega)).trans ?_
  show scaleCode (fun k => (V1 m ρ c main_v0 : S6144x4096.Idx → EReal) (ix2 (tok b t) k)) g
    = scaleCode (fun k => argX m c (ix3 b t k)) g
  exact congrArg (fun v => scaleCode v g) (flat_row m ρ c b t)

/-- The product. -/
theorem W5_y (h : TokensInRange (argX m c)) (hs : ScalesFinite (m ((c : Thread nD τ).loc main_arg2))) :
    W5 m ρ c (Proc.devRef .tc main_v3)
      = yVal (argX m c) (m ((c : Thread nD τ).loc main_arg1)) (m ((c : Thread nD τ).loc main_arg2)) := by
  have a1 : V2 m ρ c main_arg1 = m ((c : Thread nD τ).loc main_arg1) := W2_args m ρ c main_arg1 (by decide)
  have a2 : V2 m ρ c main_arg2 = m ((c : Thread nD τ).loc main_arg2) := W2_args m ρ c main_arg2 (by decide)
  have eA : (V3 m ρ c main_v1_2 : S6144x4096.Idx → EReal) = deqArr (V1 m ρ c main_v0) :=
    (W3_of_ne m ρ c main_v1_2 (by decide)).trans
      ((W2_arr m ρ c 3).trans (deq_arr (V1 m ρ) c (flat_in_range m ρ c h)))
  have eB : (V3 m ρ c main_v2 : S4608x4096.Idx → EReal)
      = wDeqArr (m ((c : Thread nD τ).loc main_arg1)) (m ((c : Thread nD τ).loc main_arg2)) := by
    refine (W3_arr m ρ c 2).trans ((wdeq_arr (V2 m ρ) c (by rw [a2]; exact hs)).trans ?_)
    rw [a1, a2]
  refine (W5_of m ρ c main_v3 (by decide)).trans ((W4_arr m ρ c 2).trans ((prod_arr (V3 m ρ) c).trans ?_))
  rw [eA, eB]
  funext i
  obtain ⟨b, t, n, rfl⟩ : ∃ (b : Fin 3) (t : Fin 2048) (n : Fin 4608), i = ix3 b t n := ⟨i 0, i 1, i 2, eq_ix3 i⟩
  exact congrArg (fun v => ∑ k : Fin 4096, deq v k
    * wDeq (fun k => (m ((c : Thread nD τ).loc main_arg1) : S4608x4096.Idx → EReal) (ix2 n k))
      (fun g => (m ((c : Thread nD τ).loc main_arg2) : S4608x128.Idx → BitVec 8) (ix2 n g)) k) (flat_row m ρ c b t)

end Cert.Mx
-- ==== Proof.Run.lean ====
module

public import proofs.«01_k».proof.Proof.Results
public import Idealize.ShloMosaic.Lib.Ring
public import Idealize.ShloMosaic.Lib.Tactic
public import Idealize.ShloMosaic.Lib.Pipeline.RegionsLoop

@[expose] public section

set_option maxRecDepth 16384

/-!
# The kernel's run

Every run of the three calls ends with the three results at the functions of `Results`, the arguments unchanged.
-/

noncomputable section

namespace Cert.Mx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Under the range conditions every run of the kernel terminates with the product, the codes and the scale codes at their
    functions of the arguments, and the arguments as they were. -/
theorem kernel_run (hx : ∀ c : Dev nD, TokensInRange (m ((c : Thread nD τ).loc main_arg0)))
    (hs : ∀ c : Dev nD, ScalesFinite (m ((c : Thread nD τ).loc main_arg2))) :
    θ_run defs (onTc (τ := τ) (main (F := Ideal))) ⟨m, fun _ => 0, ρ⟩ (fun r => ∀ c : Dev nD,
      r.2.mem ((c.tc : Thread nD τ).loc main_v3)
          = yVal (m ((c : Thread nD τ).loc main_arg0)) (m ((c : Thread nD τ).loc main_arg1)) (m ((c : Thread nD τ).loc main_arg2))
      ∧ r.2.mem ((c.tc : Thread nD τ).loc main_v4) = codeVal (m ((c : Thread nD τ).loc main_arg0))
      ∧ r.2.mem ((c.tc : Thread nD τ).loc main_v5) = scaleVal (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨(h c _ (mem_uc main_v3 (by decide))).trans (W5_y m ρ c (hx c) (hs c)),
       (h c _ (mem_uc main_v4 (by decide))).trans (W5_codes m ρ c (hx c)),
       (h c _ (mem_uc main_v5 (by decide))).trans (W5_scales m ρ c (hx c)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.Mx
-- ==== Proof.RefRun.lean ====
module

public import proofs.«01_k».proof.Proof.Gen.ReferenceIdeal.Frame
public import Idealize.ShloMosaic.Lib.Pipeline.Value

@[expose] public section

/-!
# The reference's run

The reference is one kernel call of one grid point whose blocks are whole arrays, so each result array ends holding the
body's stored value of the argument arrays themselves.
-/

noncomputable section

namespace Cert.Mx.Ref

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 3's array is `(dats m 0 c).arrAt 3 cfg0.N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

/-- The offsets of window 0 are zero. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x2048x4096.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 2048 + 1 * (j 1).val = (j 1).val; omega
  | ⟨2, _⟩ => show win0_0.index t (2 : Fin 3) * 4096 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The offsets of window 1 are zero. -/
theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S4608x4096.Idx) : ((cfg0.win 1).blk t).view.emb j = j := by
  obtain ⟨e0, e1⟩ := idx_zero1 t
  funext a; apply Fin.ext
  match a with
  | ⟨0, _⟩ => show win0_1.index t (0 : Fin 2) * 4608 + 1 * (j 0).val = (j 0).val; omega
  | ⟨1, _⟩ => show win0_1.index t (1 : Fin 2) * 4096 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- The offsets of window 2 are zero. -/
theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S4608x128.Idx) : ((cfg0.win 2).blk t).view.emb j = j := by
  obtain ⟨e0, e1⟩ := idx_zero2 t
  funext a; apply Fin.ext
  match a with
  | ⟨0, _⟩ => show win0_2.index t (0 : Fin 2) * 4608 + 1 * (j 0).val = (j 0).val; omega
  | ⟨1, _⟩ => show win0_2.index t (1 : Fin 2) * 128 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- The offsets of window 3 are zero. -/
theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S3x2048x4608.Idx) : ((cfg0.win 3).blk t).view.emb j = j := by
  obtain ⟨e0, e1, e2⟩ := idx_zero3 t
  funext a; apply Fin.ext
  match a with
  | ⟨0, _⟩ => show win0_3.index t (0 : Fin 3) * 3 + 1 * (j 0).val = (j 0).val; omega
  | ⟨1, _⟩ => show win0_3.index t (1 : Fin 3) * 2048 + 1 * (j 1).val = (j 1).val; omega
  | ⟨2, _⟩ => show win0_3.index t (2 : Fin 3) * 4608 + 1 * (j 2).val = (j 2).val; omega

/-- The offsets of window 4 are zero. -/
theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S3x2048x4096.Idx) : ((cfg0.win 4).blk t).view.emb j = j := by
  obtain ⟨e0, e1, e2⟩ := idx_zero4 t
  funext a; apply Fin.ext
  match a with
  | ⟨0, _⟩ => show win0_4.index t (0 : Fin 3) * 3 + 1 * (j 0).val = (j 0).val; omega
  | ⟨1, _⟩ => show win0_4.index t (1 : Fin 3) * 2048 + 1 * (j 1).val = (j 1).val; omega
  | ⟨2, _⟩ => show win0_4.index t (2 : Fin 3) * 4096 + 1 * (j 2).val = (j 2).val; omega

/-- The offsets of window 5 are zero. -/
theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S3x2048x128.Idx) : ((cfg0.win 5).blk t).view.emb j = j := by
  obtain ⟨e0, e1, e2⟩ := idx_zero5 t
  funext a; apply Fin.ext
  match a with
  | ⟨0, _⟩ => show win0_5.index t (0 : Fin 3) * 3 + 1 * (j 0).val = (j 0).val; omega
  | ⟨1, _⟩ => show win0_5.index t (1 : Fin 3) * 2048 + 1 * (j 1).val = (j 1).val; omega
  | ⟨2, _⟩ => show win0_5.index t (2 : Fin 3) * 128 + 1 * (j 2).val = (j 2).val; omega

/-! ### Output window 3: the array after the run -/

/-- What the window's array ends holding: `out0_3` applied to the argument arrays in place of the input blocks. -/
abbrev G3 (a0 : Vec F S3x2048x4096 .bf16) (a1 : Vec F S4608x4096 .fp8e4m3) (a2 : Vec F S4608x128 .i8) : Vec F S3x2048x4608 .bf16 :=
  k0_pay1 (k0_pay4 a0) (k0_pay6 a0) a1 a2

/-- A load of the whole of a block reads the block, and the one store through the whole rectangle leaves its payload. -/
theorem out3_eq (a0 : Vec F S3x2048x4096 .bf16) (a1 : Vec F S4608x4096 .fp8e4m3) (a2 : Vec F S4608x128 .i8) : out0_3 (F := F) a0 a1 a2 = G3 a0 a1 a2 := by
  unfold out0_3 k0_pay7
  rw [View.canon_unit_zero hz3, View.ld_unit_zero (S := S3x2048x4096) hz0 _ a0, View.ld_unit_zero (S := S4608x4096) hz1 _ a1, View.ld_unit_zero (S := S4608x128) hz2 _ a2]

/-- Cutting the point's block out of `X` and reading `X` through the block's view give the same. -/
theorem cut3_eq (t : Fin cfg0.N) (X : Vec F S3x2048x4608 .bf16) :
    (cfg0.win 3).cut (grid0.coords t) X = ((cfg0.win 3).blk t).view.read (Elt F) X := by
  funext j
  show X j = X (((cfg0.win 3).blk t).view.emb j)
  rw [emb3]

/-- What the point writes back is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S3x2048x4608.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- The array after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks. -/
abbrev G4 (a0 : Vec F S3x2048x4096 .bf16) (a1 : Vec F S4608x4096 .fp8e4m3) (a2 : Vec F S4608x128 .i8) : Vec F S3x2048x4096 .fp8e4m3 :=
  k0_pay5 a0

/-- A load of the whole of a block reads the block, and the one store through the whole rectangle leaves its payload. -/
theorem out4_eq (a0 : Vec F S3x2048x4096 .bf16) (a1 : Vec F S4608x4096 .fp8e4m3) (a2 : Vec F S4608x128 .i8) : out0_4 (F := F) a0 a1 a2 = G4 a0 a1 a2 := by
  unfold out0_4
  rw [View.canon_unit_zero hz4, View.ld_unit_zero (S := S3x2048x4096) hz0 _ a0]

/-- Cutting the point's block out of `X` and reading `X` through the block's view give the same. -/
theorem cut4_eq (t : Fin cfg0.N) (X : Vec F S3x2048x4096 .fp8e4m3) :
    (cfg0.win 4).cut (grid0.coords t) X = ((cfg0.win 4).blk t).view.read (Elt F) X := by
  funext j
  show X j = X (((cfg0.win 4).blk t).view.emb j)
  rw [emb4]

/-- What the point writes back is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S3x2048x4096.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks. -/
abbrev G5 (a0 : Vec F S3x2048x4096 .bf16) (a1 : Vec F S4608x4096 .fp8e4m3) (a2 : Vec F S4608x128 .i8) : Vec F S3x2048x128 .i8 :=
  k0_pay6 a0

/-- A load of the whole of a block reads the block, and the one store through the whole rectangle leaves its payload. -/
theorem out5_eq (a0 : Vec F S3x2048x4096 .bf16) (a1 : Vec F S4608x4096 .fp8e4m3) (a2 : Vec F S4608x128 .i8) : out0_5 (F := F) a0 a1 a2 = G5 a0 a1 a2 := by
  unfold out0_5 k0_pay7
  rw [View.canon_unit_zero hz5, View.ld_unit_zero (S := S3x2048x4096) hz0 _ a0]

/-- Cutting the point's block out of `X` and reading `X` through the block's view give the same. -/
theorem cut5_eq (t : Fin cfg0.N) (X : Vec F S3x2048x128 .i8) :
    (cfg0.win 5).cut (grid0.coords t) X = ((cfg0.win 5).blk t).view.read (Elt F) X := by
  funext j
  show X j = X (((cfg0.win 5).blk t).view.emb j)
  rw [emb5]

/-- What the point writes back is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S3x2048x128.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.Mx.Ref

end
-- ==== Proof.Reference.lean ====
module

public import proofs.«01_k».proof.Proof.Values
public import proofs.«01_k».proof.Proof.RefRun

@[expose] public section

set_option maxRecDepth 16384

/-!
# What the reference computes

The reference's three results at an index: the codes, the scale codes, and the product summed block by block with the
two scales of each block outside the inner sum.
-/

noncomputable section

namespace Cert.Mx.Ref

open Cert.Mx Idealize.ShloMosaic Idealize.ShloMosaic.ValueIdx Cert.ReferenceIdeal Cert.ReferenceIdeal.Gen
open scoped BigOperators

/-- The tokens split into blocks of 32 lanes. -/
theorem pay2_apply (x : Vec Ideal S3x2048x4096 .bf16) (b : Fin 3) (t : Fin 2048) (g : Fin 128) (j : Fin 32) :
    k0_pay2 x (ix4 b t g j) = x (ix3 b t (lane g j)) := by
  unfold k0_pay2
  exact shapeCast_apply _ _ _ (ix3 b t (lane g j)) (by
    rw [Shape.rowMajor_val_three, Shape.rowMajor_val_four]
    show (b.val * 2048 + t.val) * 4096 + (32 * g.val + j.val) = ((b.val * 2048 + t.val) * 128 + g.val) * 32 + j.val
    omega)

/-- The largest magnitude of each block. -/
theorem amax_apply (x : Vec Ideal S3x2048x4096 .bf16) (b : Fin 3) (t : Fin 2048) (g : Fin 128) :
    multiReduction .maximumf [3] S3x2048x128 (absf (k0_pay2 x)) 0xFF800000#32 reduces_S3x2048x128x32_S3x2048x128 (.inl rfl) rfl
        (ix3 b t g) = blockMax (fun k => x (ix3 b t k)) g := by
  refine (Ideal.multiReduction_maximumf_single _ _ _ _ _ _).trans ?_
  have hb : (FloatOps.ofBits .f32 0xFF800000#32 : Ideal .f32) = ⊥ := ofBits_neg_inf
  have hm : ∀ i : S3x2048x128x32.Idx, absf (k0_pay2 x) i = max (k0_pay2 x i) (-k0_pay2 x i) := fun _ => rfl
  have hf : (absf (k0_pay2 x)) ∘ reduces_S3x2048x128x32_S3x2048x128.lift (ix3 b t g)
      = fun j : Fin 32 => max (x (ix3 b t (lane g j))) (-x (ix3 b t (lane g j))) := funext fun j => by
    have hj : reduces_S3x2048x128x32_S3x2048x128.lift (ix3 b t g) j = (ix4 b t g j : S3x2048x128x32.Idx) := by
      funext a
      match a with
      | ⟨0, _⟩ => rfl
      | ⟨1, _⟩ => rfl
      | ⟨2, _⟩ => rfl
      | ⟨3, _⟩ => rfl
    refine (congrArg (absf (k0_pay2 x)) hj).trans ((hm _).trans ?_)
    exact congrArg (fun v : EReal => max v (-v)) (pay2_apply x b t g j)
  rw [hf, hb]
  rfl

/-- The quotient of logarithms, of a vector of magnitudes. -/
def logs (A : FVec Ideal S3x2048x128 .f32) : FVec Ideal S3x2048x128 .f32 :=
  divf (log (mulf A (broadcast S3x2048x128 (Scalar.ofBits .f32 0x3B124925#32)))) (log (broadcast S3x2048x128 (Scalar.ofBits .f32 0x40000000#32)))

/-- The exponent words before the clip, of magnitudes `A` and quotients `q`. -/
def raw (A q : FVec Ideal S3x2048x128 .f32) : IVec S3x2048x128 32 :=
  select (cmpf .oeq A (broadcast S3x2048x128 (Scalar.ofBits .f32 0x00000000#32))) (broadcast S3x2048x128 0#32)
    (addi (fptosi 32 (floor q)) (broadcast S3x2048x128 1#32))

/-- The clip. -/
def clip (e : IVec S3x2048x128 32) : IVec S3x2048x128 32 :=
  minsi (broadcast S3x2048x128 127#32) (maxsi (broadcast S3x2048x128 4294967169#32) e)

/-- The quotient of logarithms, at an index. -/
theorem logs_apply (A : FVec Ideal S3x2048x128 .f32) (i : S3x2048x128.Idx) :
    logs A i = Ideal.div (Ideal.log (A i * Ideal.ofBits .f32 0x3B124925#32)) (Ideal.log (Ideal.ofBits .f32 0x40000000#32)) := rfl

/-- The exponent word before the clip, at an index. -/
theorem raw_apply (A q : FVec Ideal S3x2048x128 .f32) (i : S3x2048x128.Idx) :
    raw A q i = Scalar.select (Ideal.cmp .oeq (A i) (Ideal.ofBits .f32 0x00000000#32)) 0#32
      (IntOp.addi (Ideal.fptosi 32 (Ideal.liftRound Int.floor (q i))) 1#32) := rfl

/-- The clipped word, at an index. -/
theorem clip_apply (e : IVec S3x2048x128 32) (i : S3x2048x128.Idx) :
    clip e i = IntOp.minsi 127#32 (IntOp.maxsi 4294967169#32 (e i)) := rfl

/-- The largest magnitudes, as a vector. -/
def mags (x : Vec Ideal S3x2048x4096 .bf16) : FVec Ideal S3x2048x128 .f32 :=
  multiReduction .maximumf [3] S3x2048x128 (absf (k0_pay2 x)) 0xFF800000#32 reduces_S3x2048x128x32_S3x2048x128 (.inl rfl) rfl

/-- The exponent words in stages. -/
theorem pay3_eq (x : Vec Ideal S3x2048x4096 .bf16) : k0_pay3 x = clip (raw (mags x) (logs (mags x))) := by
  unfold k0_pay3 clip raw logs mags
  rfl

/-- The exponent word of each block. -/
theorem pay3_apply (x : Vec Ideal S3x2048x4096 .bf16) (h : TokensInRange x) (b : Fin 3) (t : Fin 2048) (g : Fin 128) :
    k0_pay3 x (ix3 b t g) = BitVec.ofInt 32 (blockExpo (fun k => x (ix3 b t k)) g) := by
  have hA : mags x (ix3 b t g) = blockMax (fun k => x (ix3 b t k)) g := amax_apply x b t g
  refine Eq.trans ?_ (refExpo_eq (h b t g))
  rw [pay3_eq, clip_apply, raw_apply, logs_apply, hA]
  unfold refExpo
  dsimp only

/-- The codes, in blocks. -/
theorem pay4_apply (x : Vec Ideal S3x2048x4096 .bf16) (h : TokensInRange x) (b : Fin 3) (t : Fin 2048) (g : Fin 128) (j : Fin 32) :
    k0_pay4 x (ix4 b t g j) = code (fun k => x (ix3 b t k)) (lane g j) := by
  have hs : broadcastTo S3x2048x128x32 (shapeCast S3x2048x128x1
        (exp2 (sitofp .f32 (subi (broadcast S3x2048x128 0#32) (k0_pay3 x))) : FVec Ideal S3x2048x128 .f32)
        shapeCasts_S3x2048x128_S3x2048x128x1) broadcasts_S3x2048x128x1_S3x2048x128x32 (ix4 b t g j)
      = pow2 (-blockExpo (fun k => x (ix3 b t k)) g) := by
    refine (broadcastTo_apply _ _ _ (ix4 b t g 0) (fun a => match a with
      | ⟨0, _⟩ => rfl | ⟨1, _⟩ => rfl | ⟨2, _⟩ => rfl | ⟨3, _⟩ => rfl)).trans ?_
    refine (shapeCast_apply _ _ _ (ix3 b t g) (by
      rw [Shape.rowMajor_val_three, Shape.rowMajor_val_four]
      show (b.val * 2048 + t.val) * 128 + g.val = ((b.val * 2048 + t.val) * 128 + g.val) * 1 + 0
      omega)).trans ?_
    refine Eq.trans ?_ (ref_scales (h b t g).bounds.1 (h b t g).bounds.2).1
    show Ideal.exp2 (((IntOp.subi 0#32 (k0_pay3 x (ix3 b t g))).toInt : ℝ) : EReal) = _
    rw [pay3_apply x h]
    rfl
  unfold k0_pay4
  show min (Ideal.ofBits .f32 0x43E00000#32) (max (Ideal.ofBits .f32 0xC3E00000#32) (k0_pay2 x (ix4 b t g j)
    * broadcastTo S3x2048x128x32 (shapeCast S3x2048x128x1
        (exp2 (sitofp .f32 (subi (broadcast S3x2048x128 0#32) (k0_pay3 x))) : FVec Ideal S3x2048x128 .f32)
        shapeCasts_S3x2048x128_S3x2048x128x1) broadcasts_S3x2048x128x1_S3x2048x128x32 (ix4 b t g j))) = _
  rw [hs, pay2_apply]
  unfold code
  rw [blk_lane]

/-- A lane is lane `k % 32` of its block. -/
theorem lane_div (k : Fin 4096) : k = lane (blk k) ⟨k.val % 32, by omega⟩ := by
  apply Fin.ext
  show k.val = 32 * (k.val / 32) + k.val % 32
  omega

/-- The reference's codes. -/
theorem codes_eq (x : Vec Ideal S3x2048x4096 .bf16) (h : TokensInRange x) : k0_pay5 x = codeVal x := by
  funext i
  obtain ⟨b, t, k, rfl⟩ : ∃ (b : Fin 3) (t : Fin 2048) (k : Fin 4096), i = ix3 b t k := ⟨i 0, i 1, i 2, eq_ix3 i⟩
  unfold k0_pay5
  refine (shapeCast_apply _ _ _ (ix4 b t (blk k) ⟨k.val % 32, by omega⟩) (by
    rw [Shape.rowMajor_val_three, Shape.rowMajor_val_four]
    show ((b.val * 2048 + t.val) * 128 + k.val / 32) * 32 + k.val % 32 = (b.val * 2048 + t.val) * 4096 + k.val
    omega)).trans ?_
  refine (pay4_apply x h b t _ _).trans ?_
  rw [← lane_div k]
  rfl

/-- The reference's scale codes. -/
theorem scales_eq (x : Vec Ideal S3x2048x4096 .bf16) (h : TokensInRange x) : k0_pay6 x = scaleVal x := by
  funext i
  obtain ⟨b, t, g, rfl⟩ : ∃ (b : Fin 3) (t : Fin 2048) (g : Fin 128), i = ix3 b t g := ⟨i 0, i 1, i 2, eq_ix3 i⟩
  unfold k0_pay6
  show (IntOp.addi (k0_pay3 x (ix3 b t g)) 127#32).setWidth 8 = _
  rw [pay3_apply x h]
  rfl

end Cert.Mx.Ref

end
-- ==== Proof.RefProduct.lean ====
/-
  The reference's first result: the codes' products over each block, times the two scales of the block, summed over the
  blocks; equal to the product of the dequantised values.
-/
module

public import proofs.«01_k».proof.Proof.Reference

@[expose] public section

set_option maxRecDepth 16384

noncomputable section

namespace Cert.Mx.Ref

open Cert.Mx Idealize.ShloMosaic Idealize.ShloMosaic.ValueIdx Cert.ReferenceIdeal Cert.ReferenceIdeal.Gen
open scoped BigOperators

/-- The row of the flattened tokens that holds token `t` of batch `b`. -/
def tok (b : Fin 3) (t : Fin 2048) : Fin 6144 := ⟨2048 * b.val + t.val, by omega⟩

/-- The product of the codes over each block, blocks as the batch axis. -/
def blockDots (A : FVec Ideal S6144x128x32 .fp8e4m3) (B : FVec Ideal S4608x128x32 .fp8e4m3) : FVec Ideal S128x6144x4608 .f32 :=
  matmul dot_S128x6144x32_S128x4608x32_S128x6144x4608_2_2_1_1_0_0 none
    (transpose S128x6144x32 [1, 0, 2] A transposes_S6144x128x32_p1_0_2_S128x6144x32)
    (transpose S128x4608x32 [1, 0, 2] B transposes_S4608x128x32_p1_0_2_S128x4608x32) (constant S128x6144x4608 .f32 0x00000000#32)

/-- The tokens' scales spread over the products. -/
def rowScales (P : FVec Ideal S6144x128 .f32) : FVec Ideal S128x6144x4608 .f32 :=
  broadcastTo S128x6144x4608 (shapeCast S128x6144x1 (transpose S128x6144 [1, 0] P transposes_S6144x128_p1_0_S128x6144)
    shapeCasts_S128x6144_S128x6144x1) broadcasts_S128x6144x1_S128x6144x4608

/-- The weights' scales spread over the products. -/
def colScales (Q : FVec Ideal S4608x128 .f32) : FVec Ideal S128x6144x4608 .f32 :=
  broadcastTo S128x6144x4608 (shapeCast S128x1x4608 (transpose S128x4608 [1, 0] Q transposes_S4608x128_p1_0_S128x4608)
    shapeCasts_S128x4608_S128x1x4608) broadcasts_S128x1x4608_S128x6144x4608

/-- The sum over the blocks, as the three-axis result. -/
def total (T : FVec Ideal S128x6144x4608 .f32) : FVec Ideal S3x2048x4608 .f32 :=
  shapeCast S3x2048x4608 (multiReduction .add [0] S6144x4608 T 0x00000000#32 reduces_S128x6144x4608_S6144x4608 (.inl rfl) rfl)
    shapeCasts_S6144x4608_S3x2048x4608

/-- The tokens' codes, one row for each token. -/
def rowCodes (v : FVec Ideal S3x2048x128x32 .fp8e4m3) : FVec Ideal S6144x128x32 .fp8e4m3 :=
  shapeCast S6144x128x32 v shapeCasts_S3x2048x128x32_S6144x128x32

/-- The weights' codes in blocks. -/
def colCodes (w : Vec Ideal S4608x4096 .fp8e4m3) : FVec Ideal S4608x128x32 .fp8e4m3 :=
  shapeCast S4608x128x32 (w : FVec Ideal S4608x4096 .fp8e4m3) shapeCasts_S4608x4096_S4608x128x32

/-- The tokens' scales from their bytes, one row for each token. -/
def tokScales (z : IVec S3x2048x128 8) : FVec Ideal S6144x128 .f32 :=
  shapeCast S6144x128 (exp2 (sitofp .f32 (subi (extui 32 z natLt_8_32) (broadcast S3x2048x128 127#32))) : FVec Ideal S3x2048x128 .f32) shapeCasts_S3x2048x128_S6144x128

/-- The weights' scales. -/
def weightScales (s : Vec Ideal S4608x128 .i8) : FVec Ideal S4608x128 .f32 :=
  exp2 (sitofp .f32 (subi (extui 32 (s : IVec S4608x128 8) natLt_8_32) (broadcast S4608x128 127#32)))

/-- The first result in stages. -/
theorem pay1_eq (v : FVec Ideal S3x2048x128x32 .fp8e4m3) (z : IVec S3x2048x128 8) (w : Vec Ideal S4608x4096 .fp8e4m3) (s : Vec Ideal S4608x128 .i8) :
    k0_pay1 v z w s = truncf .bf16 (total (mulf (mulf (blockDots (rowCodes v) (colCodes w)) (rowScales (tokScales z)))
      (colScales (weightScales s)))) bitsLt_bf16_f32 := by
  unfold k0_pay1 total blockDots rowScales colScales rowCodes colCodes tokScales weightScales
  rfl

/-- A block's product of two rows of codes. -/
theorem blockDots_apply (A : FVec Ideal S6144x128x32 .fp8e4m3) (B : FVec Ideal S4608x128x32 .fp8e4m3) (g : Fin 128) (r : Fin 6144) (n : Fin 4608) :
    blockDots A B (ix3 g r n) = ∑ j : Fin 32, A (ix3 r g j) * B (ix3 n g j) := by
  unfold blockDots
  simp only [matmul]
  refine (Ideal.matmul_constant_zero_apply dot_S128x6144x32_S128x4608x32_S128x6144x4608_2_2_1_1_0_0 none
    (transpose S128x6144x32 [1, 0, 2] A transposes_S6144x128x32_p1_0_2_S128x6144x32 : FVec Ideal S128x6144x32 .fp8e4m3)
    (transpose S128x4608x32 [1, 0, 2] B transposes_S4608x128x32_p1_0_2_S128x4608x32 : FVec Ideal S128x4608x32 .fp8e4m3) (ix3 g r n)).trans ?_
  let D := dot_S128x6144x32_S128x4608x32_S128x6144x4608_2_2_1_1_0_0
  have hr : D.contr.rank = 1 := rfl
  have hs : D.contr.size ⟨0, by omega⟩ = 32 := rfl
  refine (Equiv.sum_comp (contrEquiv1 D 32 hr hs).symm _).symm.trans ?_
  refine Finset.sum_congr rfl fun j _ => ?_
  have hl : D.lhsIdx (ix3 g r n) ((contrEquiv1 D 32 hr hs).symm j) = (ix3 g r j : S128x6144x32.Idx) := by
    funext a; apply Fin.ext
    match a with
    | ⟨0, _⟩ => rfl
    | ⟨1, _⟩ => rfl
    | ⟨2, _⟩ => exact contrEquiv1_symm_val D 32 hr hs j
  have hh : D.rhsIdx (ix3 g r n) ((contrEquiv1 D 32 hr hs).symm j) = (ix3 g n j : S128x4608x32.Idx) := by
    funext a; apply Fin.ext
    match a with
    | ⟨0, _⟩ => rfl
    | ⟨1, _⟩ => rfl
    | ⟨2, _⟩ => exact contrEquiv1_symm_val D 32 hr hs j
  have h1 : transpose S128x6144x32 [1, 0, 2] A transposes_S6144x128x32_p1_0_2_S128x6144x32 (ix3 g r j) = A (ix3 r g j) :=
    transpose_apply _ _ _ _ _ (fun b => match b with | ⟨0, _⟩ => rfl | ⟨1, _⟩ => rfl | ⟨2, _⟩ => rfl)
  have h2 : transpose S128x4608x32 [1, 0, 2] B transposes_S4608x128x32_p1_0_2_S128x4608x32 (ix3 g n j) = B (ix3 n g j) :=
    transpose_apply _ _ _ _ _ (fun b => match b with | ⟨0, _⟩ => rfl | ⟨1, _⟩ => rfl | ⟨2, _⟩ => rfl)
  exact congrArg₂ (fun a b : EReal => a * b) ((congrArg _ hl).trans h1) ((congrArg _ hh).trans h2)

/-- The spread scales of the tokens, at an index. -/
theorem rowScales_apply (P : FVec Ideal S6144x128 .f32) (g : Fin 128) (r : Fin 6144) (n : Fin 4608) :
    rowScales P (ix3 g r n) = P (ix2 r g) := by
  unfold rowScales
  refine (broadcastTo_apply _ _ _ (ix3 g r 0) (fun a => match a with
    | ⟨0, _⟩ => rfl | ⟨1, _⟩ => rfl | ⟨2, _⟩ => rfl)).trans ?_
  refine (shapeCast_apply _ _ _ (ix2 g r) (by
    rw [Shape.rowMajor_val_two, Shape.rowMajor_val_three]
    show g.val * 6144 + r.val = (g.val * 6144 + r.val) * 1 + 0
    omega)).trans ?_
  exact transpose_apply _ _ _ _ _ (fun b => match b with | ⟨0, _⟩ => rfl | ⟨1, _⟩ => rfl)

/-- The spread scales of the weights, at an index. -/
theorem colScales_apply (Q : FVec Ideal S4608x128 .f32) (g : Fin 128) (r : Fin 6144) (n : Fin 4608) :
    colScales Q (ix3 g r n) = Q (ix2 n g) := by
  unfold colScales
  refine (broadcastTo_apply _ _ _ (ix3 g 0 n) (fun a => match a with
    | ⟨0, _⟩ => rfl | ⟨1, _⟩ => rfl | ⟨2, _⟩ => rfl)).trans ?_
  refine (shapeCast_apply _ _ _ (ix2 g n) (by
    rw [Shape.rowMajor_val_two, Shape.rowMajor_val_three]
    show g.val * 4608 + n.val = (g.val * 1 + 0) * 4608 + n.val
    omega)).trans ?_
  exact transpose_apply _ _ _ _ _ (fun b => match b with | ⟨0, _⟩ => rfl | ⟨1, _⟩ => rfl)

/-- The result at an index is the sum over the blocks. -/
theorem total_apply (T : FVec Ideal S128x6144x4608 .f32) (b : Fin 3) (t : Fin 2048) (n : Fin 4608) :
    total T (ix3 b t n) = ∑ g : Fin 128, T (ix3 g (tok b t) n) := by
  unfold total
  refine (shapeCast_apply _ _ _ (ix2 (tok b t) n) (by
    rw [Shape.rowMajor_val_two, Shape.rowMajor_val_three]
    show (2048 * b.val + t.val) * 4608 + n.val = (b.val * 2048 + t.val) * 4608 + n.val
    omega)).trans ?_
  refine (Ideal.multiReduction_add_single _ _ _ _ _ _).trans ?_
  refine Finset.sum_congr rfl fun (g : Fin 128) _ => congrArg T ?_
  funext a
  match a with
  | ⟨0, _⟩ => rfl
  | ⟨1, _⟩ => rfl
  | ⟨2, _⟩ => rfl

/-- The code of lane `j` of block `g` of a token. -/
theorem rowCodes_apply (v : FVec Ideal S3x2048x128x32 .fp8e4m3) (b : Fin 3) (t : Fin 2048) (g : Fin 128) (j : Fin 32) :
    rowCodes v (ix3 (tok b t) g j) = v (ix4 b t g j) := by
  unfold rowCodes
  exact shapeCast_apply _ _ _ (ix4 b t g j) (by
    rw [Shape.rowMajor_val_four, Shape.rowMajor_val_three]
    show ((b.val * 2048 + t.val) * 128 + g.val) * 32 + j.val = ((2048 * b.val + t.val) * 128 + g.val) * 32 + j.val
    omega)

/-- The code of lane `j` of block `g` of a row of weights. -/
theorem colCodes_apply (w : Vec Ideal S4608x4096 .fp8e4m3) (n : Fin 4608) (g : Fin 128) (j : Fin 32) :
    colCodes w (ix3 n g j) = w (ix2 n (lane g j)) := by
  unfold colCodes
  exact shapeCast_apply _ _ _ (ix2 n (lane g j)) (by
    rw [Shape.rowMajor_val_two, Shape.rowMajor_val_three]
    show n.val * 4096 + (32 * g.val + j.val) = (n.val * 128 + g.val) * 32 + j.val
    omega)

/-- The scale of block `g` of a token. -/
theorem tokScales_apply (z : IVec S3x2048x128 8) (b : Fin 3) (t : Fin 2048) (g : Fin 128) :
    tokScales z (ix2 (tok b t) g) = Ideal.exp2 (((IntOp.subi ((z (ix3 b t g)).setWidth 32) 127#32).toInt : ℝ) : EReal) := by
  unfold tokScales
  exact shapeCast_apply _ _ _ (ix3 b t g) (by
    rw [Shape.rowMajor_val_two, Shape.rowMajor_val_three]
    show (b.val * 2048 + t.val) * 128 + g.val = (2048 * b.val + t.val) * 128 + g.val
    omega)

/-- The scale of block `g` of a row of weights. -/
theorem weightScales_apply (s : Vec Ideal S4608x128 .i8) (n : Fin 4608) (g : Fin 128) :
    weightScales s (ix2 n g)
      = Ideal.exp2 (((IntOp.subi ((s (ix2 n g) : BitVec 8).setWidth 32) 127#32).toInt : ℝ) : EReal) := rfl

/-- The reference's product: the product of the dequantised tokens with the dequantised weights. -/
theorem product_eq (x : Vec Ideal S3x2048x4096 .bf16) (w : Vec Ideal S4608x4096 .fp8e4m3) (s : Vec Ideal S4608x128 .i8)
    (h : TokensInRange x) (hs : ScalesFinite s) : k0_pay1 (k0_pay4 x) (k0_pay6 x) w s = yVal x w s := by
  funext i
  obtain ⟨b, t, n, rfl⟩ : ∃ (b : Fin 3) (t : Fin 2048) (n : Fin 4608), i = ix3 b t n := ⟨i 0, i 1, i 2, eq_ix3 i⟩
  rw [pay1_eq]
  refine (total_apply _ b t n).trans ?_
  refine Eq.trans ?_ (dot_eq (fun k => x (ix3 b t k)) (fun k => w (ix2 n k)) (fun g => s (ix2 n g))).symm
  refine Finset.sum_congr rfl fun g _ => ?_
  have h1 : blockDots (rowCodes (k0_pay4 x)) (colCodes w) (ix3 g (tok b t) n)
      = ∑ j, code (fun k => x (ix3 b t k)) (lane g j) * w (ix2 n (lane g j)) := by
    rw [blockDots_apply]
    refine Finset.sum_congr rfl fun j _ => ?_
    rw [rowCodes_apply, colCodes_apply, pay4_apply x h]
  have h2 : rowScales (tokScales (k0_pay6 x)) (ix3 g (tok b t) n) = pow2 (blockExpo (fun k => x (ix3 b t k)) g) := by
    rw [rowScales_apply, tokScales_apply, scales_eq x h]
    exact (ref_scales (h b t g).bounds.1 (h b t g).bounds.2).2
  have h3 : colScales (weightScales s) (ix3 g (tok b t) n) = wScale (s (ix2 n g)) := by
    rw [colScales_apply, weightScales_apply]
    exact (code_scales (hs n g).1 (hs n g).2).2
  show blockDots (rowCodes (k0_pay4 x)) (colCodes w) (ix3 g (tok b t) n) * rowScales (tokScales (k0_pay6 x)) (ix3 g (tok b t) n)
    * colScales (weightScales s) (ix3 g (tok b t) n) = _
  rw [h1, h2, h3]

end Cert.Mx.Ref

end
-- ==== Proof.Pre.lean ====
/-
  What the precondition says: every block of the tokens is in range, and no scale code of the weights is 0 or 255.
-/
module

public import proofs.«01_k».proof.Proof.Values
public import proofs.«01_k».proof.Proof.Gen.Pre_in_range
public import Idealize.ShloMosaic.Lib.IdealHost
public import Idealize.ShloMosaic.Lib.ReduceAll
public import Idealize.ShloMosaic.Lib.Pipeline.Value

@[expose] public section

set_option maxRecDepth 16384

noncomputable section

namespace Cert.Mx.Pre

open Cert.Mx Idealize.ShloMosaic Idealize.ShloMosaic.ValueIdx Cert.Pre_in_range Cert.Pre_in_range.Facts
open scoped BigOperators

variable [Cert.Pre_in_range.Facts]

instance : Subsingleton S_.Idx := ⟨fun i j => funext fun a => a.elim0⟩

/-- The largest magnitudes, as a vector. -/
def mags (x : FVec Ideal S3x2048x4096 .bf16) : FVec Ideal S3x2048x128 .f32 :=
  Host.reduce FloatOps.maximumf (Host.absf (shapeCast S3x2048x128x32 (extf .f32 x bitsLt_bf16_f32) shapeCasts_S3x2048x4096_S3x2048x128x32))
    (constant S_ .f32 0xFF800000#32) reducesTo_S3x2048x128x32_S3x2048x128_d3 h_S_

/-- A constant over the blocks. -/
def everywhere (b : BitVec 32) : FVec Ideal S3x2048x128 .f32 := broadcastInDim S3x2048x128 ![] bcast_S_S3x2048x128 (constant S_ .f32 b)

/-- A constant over the blocks, at an index. -/
theorem everywhere_apply (b : BitVec 32) (i : S3x2048x128.Idx) : everywhere b i = Ideal.ofBits .f32 b := rfl

/-- Whether each block is in range. -/
def blocks (A : FVec Ideal S3x2048x128 .f32) : IVec S3x2048x128 1 :=
  ori (cmpf .oeq A (everywhere 0x00000000#32))
    (andi (cmpf .oge (mulf A (everywhere 0x3B124925#32)) (everywhere 0x00800000#32)) (cmpf .ole A (everywhere 0x7F7F0000#32)))

/-- Whether each scale code is a finite power of two. -/
def scales (s : IVec S4608x128 8) : IVec S4608x128 1 :=
  andi (cmpi .uge s (broadcastInDim S4608x128 ![] bcast_S_S4608x128 (constantI S_ 8 1#8)))
    (cmpi .ule s (broadcastInDim S4608x128 ![] bcast_S_S4608x128 (constantI S_ 8 254#8)))

/-- The precondition is the two reductions of the bits above, and-ed. -/
theorem fn_eq (x : FVec Ideal S3x2048x4096 .bf16) (w : FVec Ideal S4608x4096 .fp8e4m3) (s : IVec S4608x128 8) :
    Cert.Pre_in_range.fn (F := Ideal) x w s = andi
      (Host.reduce IntOp.andi (blocks (mags x)) (constantI S_ 1 1#1) reducesTo_S3x2048x128_S_d0_1_2 h_S_)
      (Host.reduce IntOp.andi (scales s) (constantI S_ 1 1#1) reducesTo_S4608x128_S_d0_1 h_S_) := by
  unfold Cert.Pre_in_range.fn Cert.Pre_in_range.fn_part1 blocks scales mags everywhere
  rfl

/-- The bit of one block. -/
theorem blocks_apply (A : FVec Ideal S3x2048x128 .f32) (i : S3x2048x128.Idx) : blocks A i
    = IntOp.ori (Ideal.cmp .oeq (A i) (Ideal.ofBits .f32 0x00000000#32))
      (IntOp.andi (Ideal.cmp .oge (A i * Ideal.ofBits .f32 0x3B124925#32) (Ideal.ofBits .f32 0x00800000#32))
        (Ideal.cmp .ole (A i) (Ideal.ofBits .f32 0x7F7F0000#32))) := rfl

/-- The last axis of the blocks can be reduced. -/
theorem reducesLast : S3x2048x128x32.Reduces [3] S3x2048x128 := by decide

/-- The largest magnitude of each block. -/
theorem mags_apply (x : FVec Ideal S3x2048x4096 .bf16) (b : Fin 3) (t : Fin 2048) (g : Fin 128) :
    mags x (ix3 b t g) = blockMax (fun k => x (ix3 b t k)) g := by
  unfold mags
  have hx : ∀ j : Fin 32, shapeCast S3x2048x128x32 (extf .f32 x bitsLt_bf16_f32 : FVec Ideal S3x2048x4096 .f32)
      shapeCasts_S3x2048x4096_S3x2048x128x32 (ix4 b t g j) = x (ix3 b t (lane g j)) := fun j =>
    shapeCast_apply _ _ _ (ix3 b t (lane g j)) (by
      rw [Shape.rowMajor_val_three, Shape.rowMajor_val_four]
      show (b.val * 2048 + t.val) * 4096 + (32 * g.val + j.val) = ((b.val * 2048 + t.val) * 128 + g.val) * 32 + j.val
      omega)
  generalize shapeCast S3x2048x128x32 (extf .f32 x bitsLt_bf16_f32 : FVec Ideal S3x2048x4096 .f32)
      shapeCasts_S3x2048x4096_S3x2048x128x32 = v at hx ⊢
  refine (Host.reduce_eq_fold_single (max : EReal → EReal → EReal) (Host.absf v) (constant S_ .f32 0xFF800000#32 : FVec Ideal S_ .f32) _
    reducesLast h_S_ (ix3 b t g)).trans ?_
  have hb : (constant S_ .f32 0xFF800000#32 : FVec Ideal S_ .f32) (Shape.Idx.first h_S_) = ⊥ := ofBits_neg_inf
  have hm : ∀ i : S3x2048x128x32.Idx, (Host.absf v : FVec Ideal S3x2048x128x32 .f32) i = max (v i) (-v i) := fun _ => rfl
  have hf : (Host.absf v : FVec Ideal S3x2048x128x32 .f32) ∘ reducesLast.lift (ix3 b t g)
      = fun j : Fin 32 => max (x (ix3 b t (lane g j))) (-x (ix3 b t (lane g j))) := funext fun j => by
    have hj : reducesLast.lift (ix3 b t g) j = (ix4 b t g j : S3x2048x128x32.Idx) := by
      funext a
      match a with
      | ⟨0, _⟩ => rfl
      | ⟨1, _⟩ => rfl
      | ⟨2, _⟩ => rfl
      | ⟨3, _⟩ => rfl
    refine (congrArg (Host.absf v : FVec Ideal S3x2048x128x32 .f32) hj).trans ((hm _).trans ?_)
    exact congrArg (fun v : EReal => max v (-v)) (hx j)
  rw [hf, hb]
  rfl

/-- A bit that is the `or` of two is set when one of them is. -/
theorem ori_bits (p q : Bool) : IntOp.ori (BitVec.ofBool p) (BitVec.ofBool q) = BitVec.ofBool (p || q) := by
  cases p <;> cases q <;> rfl

/-- The `and` of two decided bits. -/
theorem andi_bits (p q : Bool) : IntOp.andi (BitVec.ofBool p) (BitVec.ofBool q) = BitVec.ofBool (p && q) := by
  cases p <;> cases q <;> rfl

/-- A decided bit that is 1 was decided true. -/
theorem ofBool_one {p : Bool} (h : BitVec.ofBool p = 1#1) : p = true := by
  cases p
  · exact absurd h (by decide)
  · rfl

/-- When an `and` of two bits is 1, both are. -/
theorem andi_one {a b : BitVec 1} (h : IntOp.andi a b = 1#1) : a = 1#1 ∧ b = 1#1 := by
  revert a b; decide

/-- The precondition, read off. -/
theorem in_range {x : FVec Ideal S3x2048x4096 .bf16} {w : FVec Ideal S4608x4096 .fp8e4m3} {s : IVec S4608x128 8}
    (h : Cert.Pre_in_range.fn (F := Ideal) x w s = fun _ => 1#1) : TokensInRange x ∧ ScalesFinite s := by
  rw [fn_eq] at h
  obtain ⟨h1, h2⟩ := andi_one (congrFun h ix0)
  constructor
  · intro b t g
    have e := Host.reduce_andi_all _ _ _ _ _ h1 (ix3 b t g)
    rw [blocks_apply, mags_apply, ofBits_inv448, ofBits_least_normal, ofBits_bf16Max, Ideal.ofBits_zero_f32] at e
    unfold Ideal.cmp at e
    rw [andi_bits, ori_bits] at e
    have e' := ofBool_one e
    simp only [Bool.or_eq_true, Bool.and_eq_true, decide_eq_true_eq] at e'
    exact e'
  · intro n g
    have e := Host.reduce_andi_all _ _ _ _ _ h2 (ix2 n g)
    obtain ⟨e1, e2⟩ := andi_one e
    have a1 : (1#8).ule (s (ix2 n g)) = true := ofBool_one e1
    have a2 : (s (ix2 n g)).ule 254#8 = true := ofBool_one e2
    simp only [BitVec.ule, decide_eq_true_eq] at a1 a2
    exact ⟨a1, a2⟩

end Cert.Mx.Pre

end
-- ==== Proof.lean ====
/-
  The proof of `Cert.Claim`: the frames, and that kernel and reference leave equal results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Pre_in_range
public import proofs.«01_k».proof.Proof.Run
public import proofs.«01_k».proof.Proof.RefProduct
public import proofs.«01_k».proof.Proof.Pre

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts

/-- On arguments in range the kernel and the reference both leave the product of the dequantised arguments, the tokens'
    codes and the tokens' scale codes. -/
theorem algebraic : Cert.algebraic_KernelIdeal_ReferenceIdeal_pre_in_range := by
  intro m g m' g' hp ha
  have hx := fun c => (Cert.Mx.Pre.in_range (hp c)).1
  have hs := fun c => (Cert.Mx.Pre.in_range (hp c)).2
  refine ⟨fun c => Cert.Mx.yVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Mx.codeVal (m ((c.tc : Thread Cert.KernelIdeal.nD Cert.KernelIdeal.τ).loc Cert.KernelIdeal.main_arg0)),
    fun c => Cert.Mx.scaleVal (m ((c.tc : Thread Cert.KernelIdeal.nD Cert.KernelIdeal.τ).loc Cert.KernelIdeal.main_arg0)),
    Cert.Mx.kernel_run m g hx hs, ?_⟩
  refine (θ_run Cert.ReferenceIdeal.defs _ _).mono (fun r h c => ?_) (Cert.Mx.Ref.run m' g')
  obtain ⟨h3, h4, h5, h0, h1, h2⟩ := h c
  obtain ⟨a0, a1, a2⟩ := ha c
  rw [a0, a1, a2] at h3 h4 h5
  exact ⟨h3.trans (Cert.Mx.Ref.product_eq _ _ _ (hx c) (hs c)), h4.trans (Cert.Mx.Ref.codes_eq _ (hx c)),
    h5.trans (Cert.Mx.Ref.scales_eq _ (hx c)), h0, h1, h2⟩

/-- Everything claimed: the frames of the programs, that nothing was rewritten, and the equal results. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
